-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_inputs [hPre_tame_inputs : Cert.Pre_tame_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_tame_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_inputs [hPre_tame_inputs : Cert.Pre_tame_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_tame_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_tame_inputs [hKernelIdeal : Cert.KernelIdeal.Facts] [hPre_tame_inputs : Cert.Pre_tame_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_tame_inputs [hReferenceIdeal : Cert.ReferenceIdeal.Facts] [hPre_tame_inputs : Cert.Pre_tame_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_tame_inputs [hKernelIdeal : Cert.KernelIdeal.Facts] [hReferenceIdeal : Cert.ReferenceIdeal.Facts] [hPre_tame_inputs : Cert.Pre_tame_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v29)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v31)) (v5 : (c : Dev Cert.KernelIdeal.nD) → Buf (Elt Ideal) ((c.tc : Thread Cert.KernelIdeal.nD Cert.KernelIdeal.τ).loc Cert.KernelIdeal.main_v35)) (v6 : (c : Dev Cert.KernelIdeal.nD) → Buf (Elt Ideal) ((c.tc : Thread Cert.KernelIdeal.nD Cert.KernelIdeal.τ).loc Cert.KernelIdeal.main_v37)) (v7 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_v35) = v5 c
          ∧ r.2.mem ((c.tc : Thread Cert.KernelIdeal.nD Cert.KernelIdeal.τ).loc Cert.KernelIdeal.main_v37) = v6 c
          ∧ r.2.mem ((c.tc : Thread Cert.KernelIdeal.nD Cert.KernelIdeal.τ).loc Cert.KernelIdeal.main_v39) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v76) = v5 c
          ∧ r.2.mem ((c.tc : Thread Cert.ReferenceIdeal.nD Cert.ReferenceIdeal.τ).loc Cert.ReferenceIdeal.main_v106) = v6 c
          ∧ r.2.mem ((c.tc : Thread Cert.ReferenceIdeal.nD Cert.ReferenceIdeal.τ).loc Cert.ReferenceIdeal.main_v108) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_tame_inputs : Cert.Pre_tame_inputs.Facts),
    quiescent_Kernel (hKernel := hKernel)
    ∧ quiescent_KernelIdeal (hKernelIdeal := hKernelIdeal)
    ∧ quiescent_KernelIdeal_pre_tame_inputs (hKernelIdeal := hKernelIdeal) (hPre_tame_inputs := hPre_tame_inputs)
    ∧ quiescent_ReferenceIdeal (hReferenceIdeal := hReferenceIdeal)
    ∧ quiescent_ReferenceIdeal_pre_tame_inputs (hReferenceIdeal := hReferenceIdeal) (hPre_tame_inputs := hPre_tame_inputs)
    ∧ preserves_Kernel_KernelIdeal
    ∧ algebraic_KernelIdeal_ReferenceIdeal_pre_tame_inputs (hKernelIdeal := hKernelIdeal) (hReferenceIdeal := hReferenceIdeal) (hPre_tame_inputs := hPre_tame_inputs)
-- ==== Pre_tame_inputs.lean ====
abbrev S16x512x1024 : Shape := ⟨3, ![16, 512, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S256x256x3 : Shape := ⟨3, ![256, 256, 3]⟩
abbrev S1024x256 : Shape := ⟨2, ![1024, 256]⟩
abbrev S768x256 : Shape := ⟨2, ![768, 256]⟩
abbrev S768 : Shape := ⟨1, ![768]⟩
abbrev S128x256 : Shape := ⟨2, ![128, 256]⟩
abbrev S256x256 : Shape := ⟨2, ![256, 256]⟩
abbrev S_ : Shape := ⟨0, ![]⟩

class Facts : Prop where
  bcast_S_S16x512x1024 : S_.BroadcastsInDim S16x512x1024 (![] : Fin 0 → Fin S16x512x1024.rank)
  bcast_S_S512x1024 : S_.BroadcastsInDim S512x1024 (![] : Fin 0 → Fin S512x1024.rank)
  bcast_S_S512 : S_.BroadcastsInDim S512 (![] : Fin 0 → Fin S512.rank)
  bcast_S_S256x512 : S_.BroadcastsInDim S256x512 (![] : Fin 0 → Fin S256x512.rank)
  bcast_S_S256 : S_.BroadcastsInDim S256 (![] : Fin 0 → Fin S256.rank)
  bcast_S_S256x256x3 : S_.BroadcastsInDim S256x256x3 (![] : Fin 0 → Fin S256x256x3.rank)
  bcast_S_S1024x256 : S_.BroadcastsInDim S1024x256 (![] : Fin 0 → Fin S1024x256.rank)
  slices_S768_S256_512 : S768.Slices ![512] S256

variable [Facts]

def fn_part1 {F : FTy → Type} [FloatOps F] (main_arg6 : FVec F S256 .f32) (main_arg7 : FVec F S1024x256 .f32) (main_arg11 : FVec F S768 .f32) (main_v2 : IVec S16x512x1024 1) (main_v5 : IVec S512x1024 1) (main_v8 : IVec S512 1) (main_v11 : IVec S256x512 1) (main_v14 : IVec S256 1) (main_v17 : IVec S256x256x3 1) : IVec S16x512x1024 1 × IVec S512x1024 1 × IVec S512 1 × IVec S256x512 1 × IVec S256 1 × IVec S256x256x3 1 × IVec S256 1 × IVec S1024x256 1 × IVec S256 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S1024x256 .f32 := Host.absf main_arg7
  let main_cst_6 : FVec F S_ .f32 := constant S_ .f32 0x7F800000#32
  let main_v22 : FVec F S1024x256 .f32 := broadcastInDim S1024x256 ![] bcast_S_S1024x256 main_cst_6
  let main_v23 : IVec S1024x256 1 := cmpf .olt main_v21 main_v22
  let main_v24 : FVec F S256 .f32 := (extractStridedSlice S256 ![512] · slices_S768_S256_512) main_arg11
  let main_cst_7 : FVec F S_ .f32 := constant S_ .f32 0x00000000#32
  let main_v25 : FVec F S256 .f32 := broadcastInDim S256 ![] bcast_S_S256 main_cst_7
  let main_v26 : IVec S256 1 := cmpf .oeq main_v24 main_v25
  (main_v2, main_v5, main_v8, main_v11, main_v14, main_v17, main_v20, main_v23, main_v26)

def fn {F : FTy → Type} [FloatOps F] (main_arg0 : FVec F S16x512x1024 .f32) (main_arg1 : FVec F S512x1024 .f32) (main_arg2 : FVec F S512 .f32) (main_arg3 : FVec F S256x512 .f32) (main_arg4 : FVec F S256 .f32) (main_arg5 : FVec F S256x256x3 .f32) (main_arg6 : FVec F S256 .f32) (main_arg7 : FVec F S1024x256 .f32) (main_arg8 : FVec F S768x256 .f32) (main_arg9 : FVec F S768x256 .f32) (main_arg10 : FVec F S768 .f32) (main_arg11 : FVec F S768 .f32) (main_arg12 : FVec F S128x256 .f32) (main_arg13 : FVec F S256x256 .f32) (main_arg14 : FVec F S256 .f32) : IVec S16x512x1024 1 × IVec S512x1024 1 × IVec S512 1 × IVec S256x512 1 × IVec S256 1 × IVec S256x256x3 1 × IVec S256 1 × IVec S1024x256 1 × IVec S256 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_v3 : FVec F S512x1024 .f32 := Host.absf main_arg1
  let main_cst_0 : FVec F S_ .f32 := constant S_ .f32 0x7F800000#32
  let main_v4 : FVec F S512x1024 .f32 := broadcastInDim S512x1024 ![] bcast_S_S512x1024 main_cst_0
  let main_v5 : IVec S512x1024 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x256x3 .f32 := Host.absf main_arg5
  let main_cst_4 : FVec F S_ .f32 := constant S_ .f32 0x7F800000#32
  let main_v16 : FVec F S256x256x3 .f32 := broadcastInDim S256x256x3 ![] bcast_S_S256x256x3 main_cst_4
  let main_v17 : IVec S256x256x3 1 := cmpf .olt main_v15 main_v16
  fn_part1 (F := F) main_arg6 main_arg7 main_arg11 main_v2 main_v5 main_v8 main_v11 main_v14 main_v17
-- ==== Kernel.lean ====
abbrev S16x512x1024 : Shape := ⟨3, ![16, 512, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S256x256x3 : Shape := ⟨3, ![256, 256, 3]⟩
abbrev S1024x256 : Shape := ⟨2, ![1024, 256]⟩
abbrev S768x256 : Shape := ⟨2, ![768, 256]⟩
abbrev S768 : Shape := ⟨1, ![768]⟩
abbrev S128x256 : Shape := ⟨2, ![128, 256]⟩
abbrev S256x256 : Shape := ⟨2, ![256, 256]⟩
abbrev S1024x512 : Shape := ⟨2, ![1024, 512]⟩
abbrev S1x512 : Shape := ⟨2, ![1, 512]⟩
abbrev S512x256 : Shape := ⟨2, ![512, 256]⟩
abbrev S1x256 : Shape := ⟨2, ![1, 256]⟩
abbrev S256x256x1 : Shape := ⟨3, ![256, 256, 1]⟩
abbrev S256x1024 : Shape := ⟨2, ![256, 1024]⟩
abbrev S256x128 : Shape := ⟨2, ![256, 128]⟩
abbrev S256x768 : Shape := ⟨2, ![256, 768]⟩
abbrev S1x768 : Shape := ⟨2, ![1, 768]⟩
abbrev S16x512x1 : Shape := ⟨3, ![16, 512, 1]⟩
abbrev S16x256x1 : Shape := ⟨3, ![16, 256, 1]⟩
abbrev S16x512x768 : Shape := ⟨3, ![16, 512, 768]⟩
abbrev S16x512x256 : Shape := ⟨3, ![16, 512, 256]⟩
abbrev S16x1x1 : Shape := ⟨3, ![16, 1, 1]⟩
abbrev S1x512x1024 : Shape := ⟨3, ![1, 512, 1024]⟩
abbrev S1x512x1 : Shape := ⟨3, ![1, 512, 1]⟩
abbrev S1x256x1 : Shape := ⟨3, ![1, 256, 1]⟩
abbrev S1x512x768 : Shape := ⟨3, ![1, 512, 768]⟩
abbrev S1x512x256 : Shape := ⟨3, ![1, 512, 256]⟩
abbrev S1x1x1 : Shape := ⟨3, ![1, 1, 1]⟩
abbrev S528x256 : Shape := ⟨2, ![528, 256]⟩
abbrev S8x256 : Shape := ⟨2, ![8, 256]⟩
abbrev S512x512 : Shape := ⟨2, ![512, 512]⟩
abbrev S512x1 : Shape := ⟨2, ![512, 1]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S512x768 : Shape := ⟨2, ![512, 768]⟩
abbrev S256x1 : Shape := ⟨2, ![256, 1]⟩
abbrev S128 : Shape := ⟨1, ![128]⟩
abbrev S1x128 : Shape := ⟨2, ![1, 128]⟩
abbrev S128x1 : Shape := ⟨2, ![128, 1]⟩
abbrev S512x16x768 : Shape := ⟨3, ![512, 16, 768]⟩
abbrev S512x16x256 : Shape := ⟨3, ![512, 16, 256]⟩
abbrev S16x256 : Shape := ⟨2, ![16, 256]⟩
abbrev S1x16x256 : Shape := ⟨3, ![1, 16, 256]⟩
abbrev S1x16x768 : Shape := ⟨3, ![1, 16, 768]⟩
abbrev S16x768 : Shape := ⟨2, ![16, 768]⟩
abbrev S16x512 : Shape := ⟨2, ![16, 512]⟩
abbrev S_ : Shape := ⟨0, ![]⟩

abbrev nBuf : Space → Nat
  | .hbm => 68
  | .vmem => 35
  | .smem => 0
  | _ => 0

abbrev bufTy : (tb : Table) → Fin (tcTables nBuf tb) → BufTy
  | .hbm, ⟨0, _⟩ => ⟨S16x512x1024, .f32⟩
  | .hbm, ⟨1, _⟩ => ⟨S512x1024, .f32⟩
  | .hbm, ⟨2, _⟩ => ⟨S512, .f32⟩
  | .hbm, ⟨3, _⟩ => ⟨S256x512, .f32⟩
  | .hbm, ⟨4, _⟩ => ⟨S256, .f32⟩
  | .hbm, ⟨5, _⟩ => ⟨S256x256x3, .f32⟩
  | .hbm, ⟨6, _⟩ => ⟨S256, .f32⟩
  | .hbm, ⟨7, _⟩ => ⟨S1024x256, .f32⟩
  | .hbm, ⟨8, _⟩ => ⟨S768x256, .f32⟩
  | .hbm, ⟨9, _⟩ => ⟨S768x256, .f32⟩
  | .hbm, ⟨10, _⟩ => ⟨S768, .f32⟩
  | .hbm, ⟨11, _⟩ => ⟨S768, .f32⟩
  | .hbm, ⟨12, _⟩ => ⟨S128x256, .f32⟩
  | .hbm, ⟨13, _⟩ => ⟨S256x256, .f32⟩
  | .hbm, ⟨14, _⟩ => ⟨S256, .f32⟩
  | .hbm, ⟨15, _⟩ => ⟨S1024x512, .f32⟩
  | .hbm, ⟨16, _⟩ => ⟨S1x512, .f32⟩
  | .hbm, ⟨17, _⟩ => ⟨S512x256, .f32⟩
  | .hbm, ⟨18, _⟩ => ⟨S1x256, .f32⟩
  | .hbm, ⟨19, _⟩ => ⟨S256x256x1, .f32⟩
  | .hbm, ⟨20, _⟩ => ⟨S256x256, .f32⟩
  | .hbm, ⟨21, _⟩ => ⟨S256x256, .f32⟩
  | .hbm, ⟨22, _⟩ => ⟨S256x256x1, .f32⟩
  | .hbm, ⟨23, _⟩ => ⟨S256x256, .f32⟩
  | .hbm, ⟨24, _⟩ => ⟨S256x256, .f32⟩
  | .hbm, ⟨25, _⟩ => ⟨S256x256x1, .f32⟩
  | .hbm, ⟨26, _⟩ => ⟨S256x256, .f32⟩
  | .hbm, ⟨27, _⟩ => ⟨S256x256, .f32⟩
  | .hbm, ⟨28, _⟩ => ⟨S1x256, .f32⟩
  | .hbm, ⟨29, _⟩ => ⟨S256x1024, .f32⟩
  | .hbm, ⟨30, _⟩ => ⟨S256x128, .f32⟩
  | .hbm, ⟨31, _⟩ => ⟨S256x768, .f32⟩
  | .hbm, ⟨32, _⟩ => ⟨S256x768, .f32⟩
  | .hbm, ⟨33, _⟩ => ⟨S768, .f32⟩
  | .hbm, ⟨34, _⟩ => ⟨S1x768, .f32⟩
  | .hbm, ⟨35, _⟩ => ⟨S256x256, .f32⟩
  | .hbm, ⟨36, _⟩ => ⟨S1x256, .f32⟩
  | .hbm, ⟨37, _⟩ => ⟨S16x512x1, .i32⟩
  | .hbm, ⟨38, _⟩ => ⟨S16x256x1, .i32⟩
  | .hbm, ⟨39, _⟩ => ⟨S16x512x768, .f32⟩
  | .hbm, ⟨40, _⟩ => ⟨S16x512x256, .f32⟩
  | .hbm, ⟨41, _⟩ => ⟨S16x1x1, .f32⟩
  | .hbm, ⟨42, _⟩ => ⟨S16x1x1, .f32⟩
  | .hbm, ⟨43, _⟩ => ⟨S512x16x768, .f32⟩
  | .hbm, ⟨44, _⟩ => ⟨S512x16x256, .f32⟩
  | .hbm, ⟨45, _⟩ => ⟨S1x1, .f32⟩
  | .hbm, ⟨46, _⟩ => ⟨S16x512, .i32⟩
  | .hbm, ⟨47, _⟩ => ⟨S16x256, .i32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1024x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1024x256, .f32⟩
  | .local _ .vmem, ⟨10, _⟩ => ⟨S256x1024, .f32⟩
  | .local _ .vmem, ⟨11, _⟩ => ⟨S1x256, .f32⟩
  | .local _ .vmem, ⟨12, _⟩ => ⟨S128x256, .f32⟩
  | .local _ .vmem, ⟨13, _⟩ => ⟨S256x128, .f32⟩
  | .local _ .vmem, ⟨14, _⟩ => ⟨S256x768, .f32⟩
  | .local _ .vmem, ⟨15, _⟩ => ⟨S1x768, .f32⟩
  | .local _ .vmem, ⟨16, _⟩ => ⟨S256x256, .f32⟩
  | .local _ .vmem, ⟨17, _⟩ => ⟨S1x256, .f32⟩
  | .local _ .vmem, ⟨18, _⟩ => ⟨S1x512x1, .i32⟩
  | .local _ .vmem, ⟨19, _⟩ => ⟨S1x512x1, .i32⟩
  | .local _ .vmem, ⟨20, _⟩ => ⟨S1x256x1, .i32⟩
  | .local _ .vmem, ⟨21, _⟩ => ⟨S1x256x1, .i32⟩
  | .local _ .vmem, ⟨22, _⟩ => ⟨S1x512x768, .f32⟩
  | .local _ .vmem, ⟨23, _⟩ => ⟨S1x512x768, .f32⟩
  | .local _ .vmem, ⟨24, _⟩ => ⟨S1x512x256, .f32⟩
  | .local _ .vmem, ⟨25, _⟩ => ⟨S1x512x256, .f32⟩
  | .local _ .vmem, ⟨26, _⟩ => ⟨S1x1x1, .f32⟩
  | .local _ .vmem, ⟨27, _⟩ => ⟨S1x1x1, .f32⟩
  | .local _ .vmem, ⟨28, _⟩ => ⟨S1x1x1, .f32⟩
  | .local _ .vmem, ⟨29, _⟩ => ⟨S1x1x1, .f32⟩
  | .local _ .vmem, ⟨30, _⟩ => ⟨S528x256, .f32⟩
  | .local _ .vmem, ⟨31, _⟩ => ⟨S512x16x768, .f32⟩
  | .local _ .vmem, ⟨32, _⟩ => ⟨S512x16x256, .f32⟩
  | .local _ .vmem, ⟨33, _⟩ => ⟨S256x768, .f32⟩
  | .local _ .vmem, ⟨34, _⟩ => ⟨S1x1, .f32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev main_v22_4 : Ref sig .tc := ⟨.hbm, 41, rfl⟩
abbrev main_v22_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst : Ref sig .tc := ⟨.hbm, 48, rfl⟩
abbrev main_v28 : Ref sig .tc := ⟨.hbm, 49, rfl⟩
abbrev main_cst_0 : Ref sig .tc := ⟨.hbm, 50, rfl⟩
abbrev main_v29 : Ref sig .tc := ⟨.hbm, 51, rfl⟩
abbrev main_v30 : Ref sig .tc := ⟨.hbm, 52, rfl⟩
abbrev main_cst_1 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_scratch0 : Ref sig .tc := ⟨.vmem, 30, rfl⟩
abbrev cc1_stg0_0 : Ref sig .tc := ⟨.vmem, 31, rfl⟩
abbrev cc1_stg1_0 : Ref sig .tc := ⟨.vmem, 32, rfl⟩
abbrev cc1_stg2_0 : Ref sig .tc := ⟨.vmem, 33, rfl⟩
abbrev cc1_stg3_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc1_sem0_0 : DmaSem sig := 30
abbrev cc1_sem1_0 : DmaSem sig := 31
abbrev cc1_sem2_0 : DmaSem sig := 32
abbrev cc1_sem3_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x512x1 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x1 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := .none

@[reducible] def k1_t1_loop : Scf.Loop 32 :=
  let c0_i32 : BitVec 32 := 0#32
  let c511_i32 : BitVec 32 := 511#32
  let v2 : BitVec 32 := Scalar.addi c0_i32 c511_i32
  let c1_i32 : BitVec 32 := 1#32
  ⟨c0_i32, v2, c1_i32⟩
def k1_off1 (k1_t1 : Fin k1_t1_loop.trips) : Fin 3 → Nat :=
  let c0_i32 : BitVec 32 := 0#32
  let c1_i32 : BitVec 32 := 1#32
  let arg4 : BitVec 32 := Scf.iv c0_i32 c1_i32 k1_t1
  let v15 : Index := Scalar.indexCast arg4
  let c0_6 : Index := 0#32
  let c0_7 : Index := 0#32
  ![v15.toNat, 0, 0]
def k1_off2 (k1_t1 : Fin k1_t1_loop.trips) : Fin 3 → Nat :=
  let c0_i32 : BitVec 32 := 0#32
  let c1_i32 : BitVec 32 := 1#32
  let arg4 : BitVec 32 := Scf.iv c0_i32 c1_i32 k1_t1
  let v24 : Index := Scalar.indexCast arg4
  let c0_10 : Index := 0#32
  let c0_11 : Index := 0#32
  ![v24.toNat, 0, 0]
abbrev stage1_0 : Fin 1 → Memref sig .tc .vmem S512x16x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S16x512x1024 : Shape := ⟨3, ![16, 512, 1024]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S256x256x3 : Shape := ⟨3, ![256, 256, 3]⟩
abbrev S1024x256 : Shape := ⟨2, ![1024, 256]⟩
abbrev S768x256 : Shape := ⟨2, ![768, 256]⟩
abbrev S768 : Shape := ⟨1, ![768]⟩
abbrev S128x256 : Shape := ⟨2, ![128, 256]⟩
abbrev S256x256 : Shape := ⟨2, ![256, 256]⟩
abbrev S1024x512 : Shape := ⟨2, ![1024, 512]⟩
abbrev S16x512x512 : Shape := ⟨3, ![16, 512, 512]⟩
abbrev S1x1x512 : Shape := ⟨3, ![1, 1, 512]⟩
abbrev S_ : Shape := ⟨0, ![]⟩
abbrev S512x256 : Shape := ⟨2, ![512, 256]⟩
abbrev S16x512x256 : Shape := ⟨3, ![16, 512, 256]⟩
abbrev S1x1x256 : Shape := ⟨3, ![1, 1, 256]⟩
abbrev S16x514x256 : Shape := ⟨3, ![16, 514, 256]⟩
abbrev S256x256x1 : Shape := ⟨3, ![256, 256, 1]⟩
abbrev S8192x256 : Shape := ⟨2, ![8192, 256]⟩
abbrev S8192 : Shape := ⟨1, ![8192]⟩
abbrev S8192x1 : Shape := ⟨2, ![8192, 1]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16x512 : Shape := ⟨2, ![16, 512]⟩
abbrev S16x511x256 : Shape := ⟨3, ![16, 511, 256]⟩
abbrev S16x256 : Shape := ⟨2, ![16, 256]⟩
abbrev S511x16x256 : Shape := ⟨3, ![511, 16, 256]⟩
abbrev S1x16x256 : Shape := ⟨3, ![1, 16, 256]⟩
abbrev S256x768 : Shape := ⟨2, ![256, 768]⟩
abbrev S16x768 : Shape := ⟨2, ![16, 768]⟩
abbrev S1x768 : Shape := ⟨2, ![1, 768]⟩
abbrev S16x256x2x256 : Shape := ⟨4, ![16, 256, 2, 256]⟩
abbrev S16x256x256 : Shape := ⟨3, ![16, 256, 256]⟩
abbrev S4096x256 : Shape := ⟨2, ![4096, 256]⟩
abbrev S4096 : Shape := ⟨1, ![4096]⟩
abbrev S4096x1 : Shape := ⟨2, ![4096, 1]⟩
abbrev S256x128 : Shape := ⟨2, ![256, 128]⟩
abbrev S4096x128 : Shape := ⟨2, ![4096, 128]⟩
abbrev S128 : Shape := ⟨1, ![128]⟩
abbrev S1x128 : Shape := ⟨2, ![1, 128]⟩
abbrev S1x256 : Shape := ⟨2, ![1, 256]⟩

abbrev nBuf : Space → Nat
  | .hbm => 265
  | .vmem => 0
  | .smem => 0
  | _ => 0

abbrev hbmTy0_0 (i : Nat) : BufTy := match i % 128 with
  | 0 => ⟨S16x512x1024, .f32⟩
  | 1 => ⟨S512x1024, .f32⟩
  | 2 => ⟨S512, .f32⟩
  | 3 => ⟨S256x512, .f32⟩
  | 4 => ⟨S256, .f32⟩
  | 5 => ⟨S256x256x3, .f32⟩
  | 6 => ⟨S256, .f32⟩
  | 7 => ⟨S1024x256, .f32⟩
  | 8 => ⟨S768x256, .f32⟩
  | 9 => ⟨S768x256, .f32⟩
  | 10 => ⟨S768, .f32⟩
  | 11 => ⟨S768, .f32⟩
  | 12 => ⟨S128x256, .f32⟩
  | 13 => ⟨S256x256, .f32⟩
  | 14 => ⟨S256, .f32⟩
  | 15 => ⟨S1024x512, .f32⟩
  | 16 => ⟨S16x512x512, .f32⟩
  | 17 => ⟨S1x1x512, .f32⟩
  | 18 => ⟨S16x512x512, .f32⟩
  | 19 => ⟨S16x512x512, .f32⟩
  | 20 => ⟨S_, .f32⟩
  | 21 => ⟨S16x512x512, .f32⟩
  | 22 => ⟨S16x512x512, .f32⟩
  | 23 => ⟨S512x256, .f32⟩
  | 24 => ⟨S16x512x256, .f32⟩
  | 25 => ⟨S1x1x256, .f32⟩
  | 26 => ⟨S16x512x256, .f32⟩
  | 27 => ⟨S16x512x256, .f32⟩
  | 28 => ⟨S_, .f32⟩
  | 29 => ⟨S16x512x256, .f32⟩
  | 30 => ⟨S16x512x256, .f32⟩
  | 31 => ⟨S_, .i32⟩
  | 32 => ⟨S_, .f32⟩
  | 33 => ⟨S16x514x256, .f32⟩
  | 34 => ⟨S16x512x256, .f32⟩
  | 35 => ⟨S256x256x1, .f32⟩
  | 36 => ⟨S256x256, .f32⟩
  | 37 => ⟨S256x256, .f32⟩
  | 38 => ⟨S16x512x256, .f32⟩
  | 39 => ⟨S16x512x256, .f32⟩
  | 40 => ⟨S256x256x1, .f32⟩
  | 41 => ⟨S256x256, .f32⟩
  | 42 => ⟨S256x256, .f32⟩
  | 43 => ⟨S16x512x256, .f32⟩
  | 44 => ⟨S16x512x256, .f32⟩
  | 45 => ⟨S16x512x256, .f32⟩
  | 46 => ⟨S256x256x1, .f32⟩
  | 47 => ⟨S256x256, .f32⟩
  | 48 => ⟨S256x256, .f32⟩
  | 49 => ⟨S16x512x256, .f32⟩
  | 50 => ⟨S16x512x256, .f32⟩
  | 51 => ⟨S1x1x256, .f32⟩
  | 52 => ⟨S16x512x256, .f32⟩
  | 53 => ⟨S16x512x256, .f32⟩
  | 54 => ⟨S8192x256, .f32⟩
  | 55 => ⟨S8192x256, .f32⟩
  | 56 => ⟨S_, .f32⟩
  | 57 => ⟨S8192, .f32⟩
  | 58 => ⟨S8192x1, .f32⟩
  | 59 => ⟨S256x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S1024x256, .f32⟩
  | 67 => ⟨S_, .f32⟩
  | 68 => ⟨S1024, .f32⟩
  | 69 => ⟨S1x1024, .f32⟩
  | 70 => ⟨S8192x1024, .f32⟩
  | 71 => ⟨S8192x1024, .f32⟩
  | 72 => ⟨S8192x1024, .i32⟩
  | 73 => ⟨S_, .f32⟩
  | 74 => ⟨S_, .i32⟩
  | 75 => ⟨S8192, .f32⟩
  | 76 => ⟨S8192, .i32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S1, .i32⟩
  | 86 => ⟨S_, .i32⟩
  | 87 => ⟨S8192x1, .i32⟩
  | 88 => ⟨S8192x1, .i1⟩
  | 89 => ⟨S1x1, .i32⟩
  | 90 => ⟨S8192x1, .i32⟩
  | 91 => ⟨S8192x1, .i1⟩
  | 92 => ⟨S8192x1, .i1⟩
  | 93 => ⟨S_, .i1⟩
  | 94 => ⟨S8192, .i1⟩
  | 95 => ⟨S8192x256, .f32⟩
  | 96 => ⟨S8192x256, .i1⟩
  | 97 => ⟨S_, .f32⟩
  | 98 => ⟨S8192x256, .f32⟩
  | 99 => ⟨S8192x256, .f32⟩
  | 100 => ⟨S16x512x256, .f32⟩
  | 101 => ⟨S16x512, .i32⟩
  | 102 => ⟨S16x512x256, .f32⟩
  | 103 => ⟨S16x512x256, .f32⟩
  | 104 => ⟨S_, .f32⟩
  | 105 => ⟨S_, .f32⟩
  | 106 => ⟨S_, .f32⟩
  | 107 => ⟨S_, .f32⟩
  | 108 => ⟨S16x512x256, .f32⟩
  | 109 => ⟨S16x512x256, .f32⟩
  | 110 => ⟨S_, .f32⟩
  | 111 => ⟨S_, .f32⟩
  | 112 => ⟨S_, .f32⟩
  | 113 => ⟨S_, .f32⟩
  | 114 => ⟨S16x511x256, .f32⟩
  | 115 => ⟨S_, .f32⟩
  | 116 => ⟨S16x256, .f32⟩
  | 117 => ⟨S511x16x256, .f32⟩
  | 118 => ⟨S_, .f32⟩
  | 119 => ⟨S511x16x256, .f32⟩
  | 120 => ⟨S_, .i32⟩
  | 121 => ⟨S511x16x256, .f32⟩
  | 122 => ⟨S768x256, .f32⟩
  | 123 => ⟨S768, .f32⟩
  | 124 => ⟨S768x256, .f32⟩
  | 125 => ⟨S768, .f32⟩
  | 126 => ⟨S_, .i32⟩
  | 127 => ⟨S16x256, .f32⟩
  | _ => ⟨S16x512x1024, .f32⟩

abbrev hbmTy0_1 (i : Nat) : BufTy := match i % 128 with
  | 0 => ⟨S511x16x256, .f32⟩
  | 1 => ⟨S_, .i32⟩
  | 2 => ⟨S_, .i1⟩
  | 3 => ⟨S_, .i32⟩
  | 4 => ⟨S_, .i32⟩
  | 5 => ⟨S1x16x256, .f32⟩
  | 6 => ⟨S16x256, .f32⟩
  | 7 => ⟨S256x768, .f32⟩
  | 8 => ⟨S16x768, .f32⟩
  | 9 => ⟨S1x768, .f32⟩
  | 10 => ⟨S16x768, .f32⟩
  | 11 => ⟨S16x768, .f32⟩
  | 12 => ⟨S256x768, .f32⟩
  | 13 => ⟨S16x768, .f32⟩
  | 14 => ⟨S1x768, .f32⟩
  | 15 => ⟨S16x768, .f32⟩
  | 16 => ⟨S16x768, .f32⟩
  | 17 => ⟨S16x256, .f32⟩
  | 18 => ⟨S16x256, .f32⟩
  | 19 => ⟨S16x256, .f32⟩
  | 20 => ⟨S16x256, .f32⟩
  | 21 => ⟨S16x256, .f32⟩
  | 22 => ⟨S16x256, .f32⟩
  | 23 => ⟨S16x256, .f32⟩
  | 24 => ⟨S16x256, .f32⟩
  | 25 => ⟨S16x256, .f32⟩
  | 26 => ⟨S_, .f32⟩
  | 27 => ⟨S16x256, .f32⟩
  | 28 => ⟨S16x256, .f32⟩
  | 29 => ⟨S_, .f32⟩
  | 30 => ⟨S16x256, .f32⟩
  | 31 => ⟨S16x256, .f32⟩
  | 32 => ⟨S16x256, .f32⟩
  | 33 => ⟨S16x256, .f32⟩
  | 34 => ⟨S16x256, .f32⟩
  | 35 => ⟨S_, .f32⟩
  | 36 => ⟨S16x256, .f32⟩
  | 37 => ⟨S16x256, .f32⟩
  | 38 => ⟨S_, .f32⟩
  | 39 => ⟨S16x256, .f32⟩
  | 40 => ⟨S16x256, .f32⟩
  | 41 => ⟨S16x256, .f32⟩
  | 42 => ⟨S16x256, .f32⟩
  | 43 => ⟨S16x256, .f32⟩
  | 44 => ⟨S_, .f32⟩
  | 45 => ⟨S16x256, .f32⟩
  | 46 => ⟨S16x256, .f32⟩
  | 47 => ⟨S16x256, .f32⟩
  | 48 => ⟨S16x256, .f32⟩
  | 49 => ⟨S16x256, .f32⟩
  | 50 => ⟨S1x16x256, .f32⟩
  | 51 => ⟨S_, .i32⟩
  | 52 => ⟨S_, .i32⟩
  | 53 => ⟨S511x16x256, .f32⟩
  | 54 => ⟨S_, .i32⟩
  | 55 => ⟨S_, .i32⟩
  | 56 => ⟨S16x511x256, .f32⟩
  | 57 => ⟨S16x511x256, .f32⟩
  | 58 => ⟨S16x511x256, .f32⟩
  | 59 => ⟨S16x511x256, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S16x256x2x256, .f32⟩
  | 71 => ⟨S_, .f32⟩
  | 72 => ⟨S16x256x256, .f32⟩
  | 73 => ⟨S_, .f32⟩
  | 74 => ⟨S16x256x256, .f32⟩
  | 75 => ⟨S16x256x256, .f32⟩
  | 76 => ⟨S4096x256, .f32⟩
  | 77 => ⟨S4096x256, .f32⟩
  | 78 => ⟨S_, .f32⟩
  | 79 => ⟨S4096, .f32⟩
  | 80 => ⟨S4096x1, .f32⟩
  | 81 => ⟨S256x128, .f32⟩
  | 82 => ⟨S4096x128, .f32⟩
  | 83 => ⟨S_, .f32⟩
  | 84 => ⟨S4096x128, .f32⟩
  | 85 => ⟨S4096x128, .f32⟩
  | 86 => ⟨S4096x128, .f32⟩
  | 87 => ⟨S4096x128, .f32⟩
  | 88 => ⟨S128x256, .f32⟩
  | 89 => ⟨S_, .f32⟩
  | 90 => ⟨S128, .f32⟩
  | 91 => ⟨S1x128, .f32⟩
  | 92 => ⟨S4096x128, .f32⟩
  | 93 => ⟨S4096x128, .f32⟩
  | 94 => ⟨S4096x128, .i32⟩
  | 95 => ⟨S_, .f32⟩
  | 96 => ⟨S_, .i32⟩
  | 97 => ⟨S4096, .f32⟩
  | 98 => ⟨S4096, .i32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S1, .i32⟩
  | 108 => ⟨S_, .i32⟩
  | 109 => ⟨S4096x1, .i32⟩
  | 110 => ⟨S4096x1, .i1⟩
  | 111 => ⟨S1x1, .i32⟩
  | 112 => ⟨S4096x1, .i32⟩
  | 113 => ⟨S4096x1, .i1⟩
  | 114 => ⟨S4096x1, .i1⟩
  | 115 => ⟨S_, .i1⟩
  | 116 => ⟨S4096, .i1⟩
  | 117 => ⟨S4096x256, .f32⟩
  | 118 => ⟨S4096x256, .i1⟩
  | 119 => ⟨S_, .f32⟩
  | 120 => ⟨S4096x256, .f32⟩
  | 121 => ⟨S4096x256, .f32⟩
  | 122 => ⟨S256x256, .f32⟩
  | 123 => ⟨S4096x256, .f32⟩
  | 124 => ⟨S1x256, .f32⟩
  | 125 => ⟨S4096x256, .f32⟩
  | 126 => ⟨S4096x256, .f32⟩
  | 127 => ⟨S4096x256, .f32⟩
  | _ => ⟨S16x512x1024, .f32⟩

abbrev hbmTy0_2 (i : Nat) : BufTy := match i % 128 with
  | 0 => ⟨S4096x256, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S16x256, .i32⟩
  | _ => ⟨S16x512x1024, .f32⟩

abbrev hbmTy (i : Nat) : BufTy := match i / 128 with
  | 0 => hbmTy0_0 i
  | 1 => hbmTy0_1 i
  | 2 => hbmTy0_2 i
  | _ => ⟨S16x512x1024, .f32⟩

abbrev bufTy : (tb : Table) → Fin (tcTables nBuf tb) → BufTy
  | .hbm, ⟨i, _⟩ => hbmTy i
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_v0 : Ref sig .tc := ⟨.hbm, 72, rfl⟩
abbrev main_call1_cst : Ref sig .tc := ⟨.hbm, 73, rfl⟩
abbrev main_call1_c : Ref sig .tc := ⟨.hbm, 74, rfl⟩
abbrev main_call1_v1_0 : Ref sig .tc := ⟨.hbm, 75, rfl⟩
abbrev main_v50 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_4 : Ref sig .tc := ⟨.hbm, 104, rfl⟩
abbrev main_v56 : Ref sig .tc := ⟨.hbm, 105, rfl⟩
abbrev main_cst_5 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_6 : Ref sig .tc := ⟨.hbm, 110, rfl⟩
abbrev main_v60 : Ref sig .tc := ⟨.hbm, 111, rfl⟩
abbrev main_cst_7 : Ref sig .tc := ⟨.hbm, 112, rfl⟩
abbrev main_v61 : Ref sig .tc := ⟨.hbm, 113, rfl⟩
abbrev main_v62 : Ref sig .tc := ⟨.hbm, 114, rfl⟩
abbrev main_cst_8 : Ref sig .tc := ⟨.hbm, 115, rfl⟩
abbrev main_v63 : Ref sig .tc := ⟨.hbm, 116, rfl⟩
abbrev main_v64 : Ref sig .tc := ⟨.hbm, 117, rfl⟩
abbrev main_cst_9 : Ref sig .tc := ⟨.hbm, 118, rfl⟩
abbrev main_v65 : Ref sig .tc := ⟨.hbm, 119, rfl⟩
abbrev main_c_10 : Ref sig .tc := ⟨.hbm, 120, rfl⟩
abbrev main_v66_0 : Ref sig .tc := ⟨.hbm, 121, rfl⟩
abbrev main_v66_1 : Ref sig .tc := ⟨.hbm, 122, rfl⟩
abbrev main_v66_2 : Ref sig .tc := ⟨.hbm, 123, rfl⟩
abbrev main_v66_3 : Ref sig .tc := ⟨.hbm, 124, rfl⟩
abbrev main_v66_4 : Ref sig .tc := ⟨.hbm, 125, rfl⟩
abbrev main_v66_5 : Ref sig .tc := ⟨.hbm, 126, rfl⟩
abbrev main_v66_6 : Ref sig .tc := ⟨.hbm, 127, rfl⟩
abbrev main_v66_7 : Ref sig .tc := ⟨.hbm, 128, rfl⟩
abbrev main_while0c_c_30 : Ref sig .tc := ⟨.hbm, 129, rfl⟩
abbrev main_while0c_v110 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_v0 : Ref sig .tc := ⟨.hbm, 133, rfl⟩
abbrev main_while0b_v110 : Ref sig .tc := ⟨.hbm, 134, rfl⟩
abbrev main_while0b_v111 : Ref sig .tc := ⟨.hbm, 135, rfl⟩
abbrev main_while0b_v112 : Ref sig .tc := ⟨.hbm, 136, rfl⟩
abbrev main_while0b_v113 : Ref sig .tc := ⟨.hbm, 137, rfl⟩
abbrev main_while0b_v114 : Ref sig .tc := ⟨.hbm, 138, rfl⟩
abbrev main_while0b_v115 : Ref sig .tc := ⟨.hbm, 139, rfl⟩
abbrev main_while0b_v116 : Ref sig .tc := ⟨.hbm, 140, rfl⟩
abbrev main_while0b_v117 : Ref sig .tc := ⟨.hbm, 141, rfl⟩
abbrev main_while0b_v118 : Ref sig .tc := ⟨.hbm, 142, rfl⟩
abbrev main_while0b_v119 : Ref sig .tc := ⟨.hbm, 143, rfl⟩
abbrev main_while0b_v120 : Ref sig .tc := ⟨.hbm, 144, rfl⟩
abbrev main_while0b_v121 : Ref sig .tc := ⟨.hbm, 145, rfl⟩
abbrev main_while0b_v122 : Ref sig .tc := ⟨.hbm, 146, rfl⟩
abbrev main_while0b_v123 : Ref sig .tc := ⟨.hbm, 147, rfl⟩
abbrev main_while0b_v124 : Ref sig .tc := ⟨.hbm, 148, rfl⟩
abbrev main_while0b_v125 : Ref sig .tc := ⟨.hbm, 149, rfl⟩
abbrev main_while0b_v126 : Ref sig .tc := ⟨.hbm, 150, rfl⟩
abbrev main_while0b_v127 : Ref sig .tc := ⟨.hbm, 151, rfl⟩
abbrev main_while0b_v128 : Ref sig .tc := ⟨.hbm, 152, rfl⟩
abbrev main_while0b_v129 : Ref sig .tc := ⟨.hbm, 153, rfl⟩
abbrev main_while0b_cst_30 : Ref sig .tc := ⟨.hbm, 154, rfl⟩
abbrev main_while0b_v130 : Ref sig .tc := ⟨.hbm, 155, rfl⟩
abbrev main_while0b_v131 : Ref sig .tc := ⟨.hbm, 156, rfl⟩
abbrev main_while0b_cst_31 : Ref sig .tc := ⟨.hbm, 157, rfl⟩
abbrev main_while0b_v132 : Ref sig .tc := ⟨.hbm, 158, rfl⟩
abbrev main_while0b_v133 : Ref sig .tc := ⟨.hbm, 159, rfl⟩
abbrev main_while0b_v134 : Ref sig .tc := ⟨.hbm, 160, rfl⟩
abbrev main_while0b_v135 : Ref sig .tc := ⟨.hbm, 161, rfl⟩
abbrev main_while0b_v136 : Ref sig .tc := ⟨.hbm, 162, rfl⟩
abbrev main_while0b_cst_32 : Ref sig .tc := ⟨.hbm, 163, rfl⟩
abbrev main_while0b_v137 : Ref sig .tc := ⟨.hbm, 164, rfl⟩
abbrev main_while0b_v138 : Ref sig .tc := ⟨.hbm, 165, rfl⟩
abbrev main_while0b_cst_33 : Ref sig .tc := ⟨.hbm, 166, rfl⟩
abbrev main_while0b_v139 : Ref sig .tc := ⟨.hbm, 167, rfl⟩
abbrev main_while0b_v140 : Ref sig .tc := ⟨.hbm, 168, rfl⟩
abbrev main_while0b_v141 : Ref sig .tc := ⟨.hbm, 169, rfl⟩
abbrev main_while0b_v142 : Ref sig .tc := ⟨.hbm, 170, rfl⟩
abbrev main_while0b_v143 : Ref sig .tc := ⟨.hbm, 171, rfl⟩
abbrev main_while0b_cst_34 : Ref sig .tc := ⟨.hbm, 172, rfl⟩
abbrev main_while0b_v144 : Ref sig .tc := ⟨.hbm, 173, rfl⟩
abbrev main_while0b_v145 : Ref sig .tc := ⟨.hbm, 174, rfl⟩
abbrev main_while0b_v146 : Ref sig .tc := ⟨.hbm, 175, rfl⟩
abbrev main_while0b_v147 : Ref sig .tc := ⟨.hbm, 176, rfl⟩
abbrev main_while0b_v148 : Ref sig .tc := ⟨.hbm, 177, rfl⟩
abbrev main_while0b_call4_v0 : Ref sig .tc := ⟨.hbm, 178, rfl⟩
abbrev main_while0b_call4_c : Ref sig .tc := ⟨.hbm, 179, rfl⟩
abbrev main_while0b_call4_c_0 : Ref sig .tc := ⟨.hbm, 180, rfl⟩
abbrev main_while0b_v149 : Ref sig .tc := ⟨.hbm, 181, rfl⟩
abbrev main_while0b_c_35 : Ref sig .tc := ⟨.hbm, 182, rfl⟩
abbrev main_while0b_v150 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_cst_11 : Ref sig .tc := ⟨.hbm, 188, rfl⟩
abbrev main_v71 : Ref sig .tc := ⟨.hbm, 189, rfl⟩
abbrev main_cst_12 : Ref sig .tc := ⟨.hbm, 190, rfl⟩
abbrev main_v72 : Ref sig .tc := ⟨.hbm, 191, rfl⟩
abbrev main_cst_13 : Ref sig .tc := ⟨.hbm, 192, rfl⟩
abbrev main_v73 : Ref sig .tc := ⟨.hbm, 193, rfl⟩
abbrev main_v74 : Ref sig .tc := ⟨.hbm, 194, rfl⟩
abbrev main_cst_14 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_cst_15 : Ref sig .tc := ⟨.hbm, 199, rfl⟩
abbrev main_v78 : Ref sig .tc := ⟨.hbm, 200, rfl⟩
abbrev main_cst_16 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_cst_17 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_cst_18 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_cst_19 : Ref sig .tc := ⟨.hbm, 217, rfl⟩
abbrev main_v92 : Ref sig .tc := ⟨.hbm, 218, rfl⟩
abbrev main_v93 : Ref sig .tc := ⟨.hbm, 219, rfl⟩
abbrev main_v94 : Ref sig .tc := ⟨.hbm, 220, rfl⟩
abbrev main_v95 : Ref sig .tc := ⟨.hbm, 221, rfl⟩
abbrev main_call5_v0 : Ref sig .tc := ⟨.hbm, 222, rfl⟩
abbrev main_call5_cst : Ref sig .tc := ⟨.hbm, 223, rfl⟩
abbrev main_call5_c : Ref sig .tc := ⟨.hbm, 224, rfl⟩
abbrev main_call5_v1_0 : Ref sig .tc := ⟨.hbm, 225, rfl⟩
abbrev main_v96 : Ref sig .tc := ⟨.hbm, 226, rfl⟩
abbrev main_call6_c : Ref sig .tc := ⟨.hbm, 227, rfl⟩
abbrev main_call6_v0 : Ref sig .tc := ⟨.hbm, 228, rfl⟩
abbrev main_call6_v1 : Ref sig .tc := ⟨.hbm, 229, rfl⟩
abbrev main_call6_c_0 : Ref sig .tc := ⟨.hbm, 230, rfl⟩
abbrev main_call6_v2 : Ref sig .tc := ⟨.hbm, 231, rfl⟩
abbrev main_call6_v3 : Ref sig .tc := ⟨.hbm, 232, rfl⟩
abbrev main_call6_v4 : Ref sig .tc := ⟨.hbm, 233, rfl⟩
abbrev main_call6_v5 : Ref sig .tc := ⟨.hbm, 234, rfl⟩
abbrev main_call6_c_1 : Ref sig .tc := ⟨.hbm, 235, rfl⟩
abbrev main_call6_c_2 : Ref sig .tc := ⟨.hbm, 236, rfl⟩
abbrev main_call6_v6 : Ref sig .tc := ⟨.hbm, 237, rfl⟩
abbrev main_call6_v7 : Ref sig .tc := ⟨.hbm, 238, rfl⟩
abbrev main_call6_v8 : Ref sig .tc := ⟨.hbm, 239, rfl⟩
abbrev main_call6_v9 : Ref sig .tc := ⟨.hbm, 240, rfl⟩
abbrev main_call6_v10 : Ref sig .tc := ⟨.hbm, 241, rfl⟩
abbrev main_call6_v11 : Ref sig .tc := ⟨.hbm, 242, rfl⟩
abbrev main_call6_c_3 : Ref sig .tc := ⟨.hbm, 243, rfl⟩
abbrev main_call6_v12 : Ref sig .tc := ⟨.hbm, 244, rfl⟩
abbrev main_call6_v13 : Ref sig .tc := ⟨.hbm, 245, rfl⟩
abbrev main_call6_v14 : Ref sig .tc := ⟨.hbm, 246, rfl⟩
abbrev main_call6_cst : Ref sig .tc := ⟨.hbm, 247, rfl⟩
abbrev main_call6_v15 : Ref sig .tc := ⟨.hbm, 248, rfl⟩
abbrev main_v97 : Ref sig .tc := ⟨.hbm, 249, rfl⟩
abbrev main_v98 : Ref sig .tc := ⟨.hbm, 250, rfl⟩
abbrev main_v99 : Ref sig .tc := ⟨.hbm, 251, rfl⟩
abbrev main_v100 : Ref sig .tc := ⟨.hbm, 252, rfl⟩
abbrev main_v101 : Ref sig .tc := ⟨.hbm, 253, rfl⟩
abbrev main_v102 : Ref sig .tc := ⟨.hbm, 254, rfl⟩
abbrev main_v103 : Ref sig .tc := ⟨.hbm, 255, rfl⟩
abbrev main_v104 : Ref sig .tc := ⟨.hbm, 256, rfl⟩
abbrev main_cst_20 : Ref sig .tc := ⟨.hbm, 257, rfl⟩
abbrev main_v105 : Ref sig .tc := ⟨.hbm, 258, rfl⟩
abbrev main_cst_21 : Ref sig .tc := ⟨.hbm, 259, rfl⟩
abbrev main_v106 : Ref sig .tc := ⟨.hbm, 260, rfl⟩
abbrev main_cst_22 : Ref sig .tc := ⟨.hbm, 261, rfl⟩
abbrev main_v107 : Ref sig .tc := ⟨.hbm, 262, rfl⟩
abbrev main_v108 : Ref sig .tc := ⟨.hbm, 263, rfl⟩
abbrev main_v109 : Ref sig .tc := ⟨.hbm, 264, rfl⟩

abbrev nD : Nat := 1
abbrev τ : Topo := Topo.v7x

variable {F : FTy → Type} [FloatOps F]

abbrev main_while0_count : Scf.Loop 32 := ⟨0#32, 511#32, 1#32⟩
-- ==== Proof.KIRegion0.lean ====
/-
  The first launch of the program `KernelIdeal`: its body run on one block, and what it leaves in each output block. The
  launch set-up follows the generated frame module; the run of the body is given the budget it needs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__k1_body` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 17, through which its contents are stated (`View.read_writes_of_cover`: the
    choice does not matter). -/
abbrev VO0_17 : View sig .tc .vmem S1x512x1 .i32 := (Memref.whole cc0_stg17_0 : Memref sig .tc .vmem S1x512x1 .i32).view
/-- One staging buffer of output window 18, through which its contents are stated (`View.read_writes_of_cover`: the
    choice does not matter). -/
abbrev VO0_18 : View sig .tc .vmem S1x256x1 .i32 := (Memref.whole cc0_stg18_0 : Memref sig .tc .vmem S1x256x1 .i32).view
/-- One staging buffer of output window 19, through which its contents are stated (`View.read_writes_of_cover`: the
    choice does not matter). -/
abbrev VO0_19 : View sig .tc .vmem S1x512x768 .f32 := (Memref.whole cc0_stg19_0 : Memref sig .tc .vmem S1x512x768 .f32).view
/-- One staging buffer of output window 20, through which its contents are stated (`View.read_writes_of_cover`: the
    choice does not matter). -/
abbrev VO0_20 : View sig .tc .vmem S1x512x256 .f32 := (Memref.whole cc0_stg20_0 : Memref sig .tc .vmem S1x512x256 .f32).view
/-- One staging buffer of output window 21, through which its contents are stated (`View.read_writes_of_cover`: the
    choice does not matter). -/
abbrev VO0_21 : View sig .tc .vmem S1x1x1 .f32 := (Memref.whole cc0_stg21_0 : Memref sig .tc .vmem S1x1x1 .f32).view
/-- One staging buffer of output window 22, through which its contents are stated (`View.read_writes_of_cover`: the
    choice does not matter). -/
abbrev VO0_22 : View sig .tc .vmem S1x1x1 .f32 := (Memref.whole cc0_stg22_0 : Memref sig .tc .vmem S1x1x1 .f32).view
/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x768 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512x1 .i32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256x1 .i32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512x768 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x512x256 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1x1 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1x1 .f32 := win0_22.stage (cfg0.slots t 22)
abbrev hs0_22 (t : Fin cfg0.N) : (ms0_22 t).IsWhole := hstage0_22 ((cfg0.slots t 22).cast nbuf0_22)
/-- The scratch operands: whole scoped buffers of the kernel's own, passed beside the windows. -/
abbrev scM0_0 : Memref sig .tc .vmem S528x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 0 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) :
    Σ' (L17 : List (View.Piece (Elt F) S1x512x1 .i32)), Σ' (L18 : List (View.Piece (Elt F) S1x256x1 .i32)), Σ' (L19 : List (View.Piece (Elt F) S1x512x768 .f32)), Σ' (L20 : List (View.Piece (Elt F) S1x512x256 .f32)), Σ' (L21 : List (View.Piece (Elt F) S1x1x1 .f32)), Σ' (L22 : List (View.Piece (Elt F) S1x1x1 .f32)), { LT0 : List (View.Piece (Elt F) S528x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LT0)) -∗ K ⟨⟩))
          ⊢ wp frame (wpE (defs₀ (F := F)) Variants.none c none) E (cc0__k1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0__k1_body_eq_skeleton]; unfold cc0__k1_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact HS0

/-- The run's pieces for output 17 tile its block (1 store of `S1x512x1`, checked by the kernel's evaluation: Lib/Ring.lean `Piece.tiledL`, linear in the pieces, through a loop's `@[irreducible]` trip theorem too), so they cover it. -/
theorem cover0_A_17 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) (y : S1x512x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1 S1x512x1.size (by sl_kernel_rfl) y

/-- What the run leaves in output 17's staging buffer: its pieces read back over junk. -/
def out0_A_17 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) : Vec F S1x512x1 .i32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).1)

/-- The run's pieces for output 18 tile its block (1 store of `S1x256x1`, checked by the kernel's evaluation: Lib/Ring.lean `Piece.tiledL`, linear in the pieces, through a loop's `@[irreducible]` trip theorem too), so they cover it. -/
theorem cover0_A_18 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) (y : S1x256x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1 S1x256x1.size (by sl_kernel_rfl) y

/-- What the run leaves in output 18's staging buffer: its pieces read back over junk. -/
def out0_A_18 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) : Vec F S1x256x1 .i32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.1)

/-- The run's pieces for output 19 tile its block (1 store of `S1x512x768`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) (y : S1x512x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1 S1x512x768.size (by sl_kernel_rfl) y

/-- What the run leaves in output 19's staging buffer: its pieces read back over junk. -/
def out0_A_19 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) : Vec F S1x512x768 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.1)

/-- The run's pieces for output 20 tile its block (1 store of `S1x512x256`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) (y : S1x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1 S1x512x256.size (by sl_kernel_rfl) y

/-- What the run leaves in output 20's staging buffer: its pieces read back over junk. -/
def out0_A_20 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) : Vec F S1x512x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.1)

/-- The run's pieces for output 21 tile its block (1 store of `S1x1x1`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) (y : S1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1 S1x1x1.size (by sl_kernel_rfl) y

/-- What the run leaves in output 21's staging buffer: its pieces read back over junk. -/
def out0_A_21 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) : Vec F S1x1x1 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.1)

/-- The run's pieces for output 22 tile its block (1 store of `S1x1x1`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) (y : S1x1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.2.1 S1x1x1.size (by sl_kernel_rfl) y

/-- What the run leaves in output 22's staging buffer: its pieces read back over junk. -/
def out0_A_22 (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec F S1x512x1024 .f32) (x1 : Vec F S1024x512 .f32) (x2 : Vec F S1x512 .f32) (x3 : Vec F S512x256 .f32) (x4 : Vec F S1x256 .f32) (x5 : Vec F S256x256 .f32) (x6 : Vec F S256x256 .f32) (x7 : Vec F S256x256 .f32) (x8 : Vec F S1024x256 .f32) (x9 : Vec F S256x1024 .f32) (x10 : Vec F S1x256 .f32) (x11 : Vec F S128x256 .f32) (x12 : Vec F S256x128 .f32) (x13 : Vec F S256x768 .f32) (x14 : Vec F S1x768 .f32) (x15 : Vec F S256x256 .f32) (x16 : Vec F S1x256 .f32) : Vec F S1x1x1 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x512x1 .i32 × Vec F S1x256x1 .i32 × Vec F S1x512x768 .f32 × Vec F S1x512x256 .f32 × Vec F S1x1x1 .f32 × Vec F S1x1x1 .f32 :=
  (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => (outsAt0 V c t).1
    | ⟨18, _⟩ => (outsAt0 V c t).2.1
    | ⟨19, _⟩ => (outsAt0 V c t).2.2.1
    | ⟨20, _⟩ => (outsAt0 V c t).2.2.2.1
    | ⟨21, _⟩ => (outsAt0 V c t).2.2.2.2.1
    | ⟨22, _⟩ => (outsAt0 V c t).2.2.2.2.2
    | ⟨_ + 23, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = (outsAt0 V c t).1 := by dsimp only [dat0]
theorem after0_18 (c : Dev nD) (t : Fin cfg0.N) : (dat0 V c).after 18 t = (outsAt0 V c t).2.1 := by dsimp only [dat0]
theorem after0_19 (c : Dev nD) (t : Fin cfg0.N) : (dat0 V c).after 19 t = (outsAt0 V c t).2.2.1 := by dsimp only [dat0]
theorem after0_20 (c : Dev nD) (t : Fin cfg0.N) : (dat0 V c).after 20 t = (outsAt0 V c t).2.2.2.1 := by dsimp only [dat0]
theorem after0_21 (c : Dev nD) (t : Fin cfg0.N) : (dat0 V c).after 21 t = (outsAt0 V c t).2.2.2.2.1 := by dsimp only [dat0]
theorem after0_22 (c : Dev nD) (t : Fin cfg0.N) : (dat0 V c).after 22 t = (outsAt0 V c t).2.2.2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d))
    ∗ (∃ d, owns (c : Thread nD τ) (ms0_21 t) fullShare ((dat0 V c).before 21 t d))
    ∗ (∃ d, owns (c : Thread nD τ) (ms0_22 t) fullShare ((dat0 V c).before 22 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t)
    ∗ owns (c : Thread nD τ) (ms0_18 t) fullShare ((dat0 V c).after 18 t)
    ∗ owns (c : Thread nD τ) (ms0_19 t) fullShare ((dat0 V c).after 19 t)
    ∗ owns (c : Thread nD τ) (ms0_20 t) fullShare ((dat0 V c).after 20 t)
    ∗ owns (c : Thread nD τ) (ms0_21 t) fullShare ((dat0 V c).after 21 t)
    ∗ owns (c : Thread nD τ) (ms0_22 t) fullShare ((dat0 V c).after 22 t))

set_option maxHeartbeats 0 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dat0 V c).Φ t.castSucc = Pipeline.ΦA spec0 c from rfl, PhiA0_eq]
  unfold outsAt0
  unfold out0_A_17 out0_A_18 out0_A_19 out0_A_20 out0_A_21 out0_A_22; (try dsimp only)
  iintro ⟨⟨⟨HS0, HR1, HR2, HR3, HR4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS0]; · iexact HS0
  iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%fT0, HS0⟩⟩
  isplitl [HS0 HR1 HR2 HR3 HR4 Hg]
  · isplitl [HS0 HR1 HR2 HR3 HR4]
    · isplitl [HS0]
      · iexists _; unfold owns; iexists _; isplitr
        swap; · iexact HS0
        ipureintro; rfl
      isplitl [HR1]
      · iexact HR1
      isplitl [HR2]
      · iexact HR2
      isplitl [HR3]
      · iexact HR3
      iexact HR4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KIRun.lean ====
/-
  The second launch and the whole run of the program `KernelIdeal`: both launches run to an end, every buffer at the contents `W5`, so every argument unchanged, and every counter at zero. The
  launch set-up follows the generated frame module; the run of the body is given the budget it needs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import proofs.«01_k».proof.Proof.KIRegion0
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__k2_body` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S1x1 .f32 := (Memref.whole cc1_stg3_0 : Memref sig .tc .vmem S1x1 .f32).view
/-- Each window's current staging memref at point `t`, spelled as the pipeline passes it (`bodyAt1`), and its wholeness. -/
abbrev ms1_0 (t : Fin cfg1.N) : Memref sig .tc .vmem S512x16x768 .f32 := win1_0.stage (cfg1.slots t 0)
abbrev hs1_0 (t : Fin cfg1.N) : (ms1_0 t).IsWhole := hstage1_0 0
abbrev ms1_1 (t : Fin cfg1.N) : Memref sig .tc .vmem S512x16x256 .f32 := win1_1.stage (cfg1.slots t 1)
abbrev hs1_1 (t : Fin cfg1.N) : (ms1_1 t).IsWhole := hstage1_1 0
abbrev ms1_2 (t : Fin cfg1.N) : Memref sig .tc .vmem S256x768 .f32 := win1_2.stage (cfg1.slots t 2)
abbrev hs1_2 (t : Fin cfg1.N) : (ms1_2 t).IsWhole := hstage1_2 0
abbrev ms1_3 (t : Fin cfg1.N) : Memref sig .tc .vmem S1x1 .f32 := win1_3.stage (cfg1.slots t 3)
abbrev hs1_3 (t : Fin cfg1.N) : (ms1_3 t).IsWhole := hstage1_3 0

-- (the run's proof term is large: the definition's epilogue — `abstractNestedProofs` — walks it past the default budget)
set_option maxHeartbeats 0 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (arg0 : Memref sig .tc .vmem S512x16x768 .f32) (harg0 : arg0.IsWhole) (arg1 : Memref sig .tc .vmem S512x16x256 .f32) (harg1 : arg1.IsWhole) (arg2 : Memref sig .tc .vmem S256x768 .f32) (harg2 : arg2.IsWhole) (arg3 : Memref sig .tc .vmem S1x1 .f32) (harg3 : arg3.IsWhole)
    (x0 : Vec F S512x16x768 .f32) (x1 : Vec F S512x16x256 .f32) (x2 : Vec F S256x768 .f32) :
    { L3 : List (View.Piece (Elt F) S1x1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg3 fullShare d)
            ∗ (iprop(owns (c : Thread nD τ) arg0 fullShare x0 ∗ owns (c : Thread nD τ) arg1 fullShare x1 ∗ owns (c : Thread nD τ) arg2 fullShare x2 ∗ (∃ f, arg3.view.loc (c : Thread nD τ) ↦[arg3.view.set]{fullShare} arg3.view.writes (Elt F) f L3)) -∗ K ⟨⟩))
          ⊢ wp frame (wpE (defs₀ (F := F)) Variants.none c none) E (cc1__k2_body arg0 harg0 arg1 harg1 arg2 harg2 arg3 harg3) K } := by
  refine ⟨?_, fun E K => ?run⟩
  case run =>
    simp only [cc1__k2_body_eq_skeleton]; unfold cc1__k2_body_skel
    unfold owns
    iintro ⟨⟨%f0, %hf0, H0⟩, ⟨%f1, %hf1, H1⟩, ⟨%f2, %hf2, H2⟩, ⟨%d3, %f3, -, H3⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    iexists _; iexact H3

/-- The run's pieces for output 3 tile its block (1 store of `S1x1`, checked by the kernel's evaluation: Lib/Ring.lean `Piece.tiledL`, linear in the pieces, through a loop's `@[irreducible]` trip theorem too), so they cover it. -/
theorem cover1_A_3 (c : Dev nD) (arg0 : Memref sig .tc .vmem S512x16x768 .f32) (harg0 : arg0.IsWhole) (arg1 : Memref sig .tc .vmem S512x16x256 .f32) (harg1 : arg1.IsWhole) (arg2 : Memref sig .tc .vmem S256x768 .f32) (harg2 : arg2.IsWhole) (arg3 : Memref sig .tc .vmem S1x1 .f32) (harg3 : arg3.IsWhole)
    (x0 : Vec F S512x16x768 .f32) (x1 : Vec F S512x16x256 .f32) (x2 : Vec F S256x768 .f32) (y : S1x1.Idx) :
    ∃ pc ∈ (kernelRun1_A c arg0 harg0 arg1 harg1 arg2 harg2 arg3 harg3 x0 x1 x2).1, y ∈ pc.1.set :=
  View.cover_of_tiledL (kernelRun1_A c arg0 harg0 arg1 harg1 arg2 harg2 arg3 harg3 x0 x1 x2).1 S1x1.size (by sl_kernel_rfl) y

/-- What the run leaves in output 3's staging buffer: its pieces read back over junk. -/
def out1_A_3 (c : Dev nD) (arg0 : Memref sig .tc .vmem S512x16x768 .f32) (harg0 : arg0.IsWhole) (arg1 : Memref sig .tc .vmem S512x16x256 .f32) (harg1 : arg1.IsWhole) (arg2 : Memref sig .tc .vmem S256x768 .f32) (harg2 : arg2.IsWhole) (arg3 : Memref sig .tc .vmem S1x1 .f32) (harg3 : arg3.IsWhole)
    (x0 : Vec F S512x16x768 .f32) (x1 : Vec F S512x16x256 .f32) (x2 : Vec F S256x768 .f32) : Vec F S1x1 .f32 :=
  VO1_3.read (Elt F) (VO1_3.writes (Elt F) VO1_3.junk (kernelRun1_A c arg0 harg0 arg1 harg1 arg2 harg2 arg3 harg3 x0 x1 x2).1)

/-! ## What the outputs hold after each point -/

/-- What the outputs' staging buffers hold after the body at point `t`: the run's contents at
    the point's memrefs and input blocks. -/
def outsAt1 (c : Dev nD) (t : Fin cfg1.N) : Vec F S1x1 .f32 :=
  out1_A_3 c (ms1_0 t) (hs1_0 t) (ms1_1 t) (hs1_1 t) (ms1_2 t) (hs1_2 t) (ms1_3 t) (hs1_3 t) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v23, main_v24]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v26, main_v27, main_cst, main_v28, main_cst_0, main_v29, main_v30, main_cst_1, main_v31, main_cst_2, main_v32, main_v33, main_cst_3, main_v34, main_v35, main_cst_4, main_v36, main_cst_5, main_v37, main_cst_6, main_v38, main_v39]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)
theorem W5_main_arg12 (c : Dev nD) : W5 m ρ c (Proc.devRef .tc main_arg12) = m ((c : Thread nD τ).loc main_arg12) :=
  W5_args m ρ c main_arg12 (by decide)
theorem W5_main_arg13 (c : Dev nD) : W5 m ρ c (Proc.devRef .tc main_arg13) = m ((c : Thread nD τ).loc main_arg13) :=
  W5_args m ρ c main_arg13 (by decide)
theorem W5_main_arg14 (c : Dev nD) : W5 m ρ c (Proc.devRef .tc main_arg14) = m ((c : Thread nD τ).loc main_arg14) :=
  W5_args m ρ c main_arg14 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every fair execution ends with every unscoped buffer at `W5` and
    every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c),
       (h.1 c _ (mem_uc main_arg7 (by decide))).trans (W5_main_arg7 m ρ c),
       (h.1 c _ (mem_uc main_arg8 (by decide))).trans (W5_main_arg8 m ρ c),
       (h.1 c _ (mem_uc main_arg9 (by decide))).trans (W5_main_arg9 m ρ c),
       (h.1 c _ (mem_uc main_arg10 (by decide))).trans (W5_main_arg10 m ρ c),
       (h.1 c _ (mem_uc main_arg11 (by decide))).trans (W5_main_arg11 m ρ c),
       (h.1 c _ (mem_uc main_arg12 (by decide))).trans (W5_main_arg12 m ρ c),
       (h.1 c _ (mem_uc main_arg13 (by decide))).trans (W5_main_arg13 m ρ c),
       (h.1 c _ (mem_uc main_arg14 (by decide))).trans (W5_main_arg14 m ρ c)⟩, h.2⟩) (run m ρ)

end Cert.KernelIdeal.Gen

end
-- ==== Proof.RefFrame.lean ====
/-
  The reference's run read buffer by buffer: which stretch of host operations writes which buffer, so that a buffer no
  later operation writes keeps its contents; and the reference's arguments unchanged at the end.
-/
module

public import proofs.«01_k».proof.Proof.Gen.ReferenceIdeal.Run
public import Idealize.ShloMosaic.Lib.Quiescent

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo

variable {F : FTy → Type} [FloatOps F]

/-- The buffers stretch 6 after the loop writes. -/
abbrev wr6 : List (Ref sig .tc) := [main_v67, main_v68, main_v69, main_v70, main_cst_11, main_v71, main_cst_12, main_v72, main_cst_13, main_v73, main_v74, main_cst_14, main_v75, main_v76, main_v77, main_cst_15, main_v78, main_cst_16, main_v79, main_v80, main_v81, main_v82, main_cst_17, main_v83, main_v84, main_v85, main_v86, main_cst_18, main_v87, main_v88, main_v89, main_v90, main_v91, main_cst_19, main_v92, main_v93, main_v94, main_v95]
/-- Stretch 6 writes only those. -/
theorem wr6_writes : (hostOps0_6 : List (HloOp τ sig (Elt F))).Forall fun op => op.writes ⊆ (wr6.map (Proc.devRef (τ := τ) .tc)).toFinset :=
  StableHlo.forall_writes_sub_of_map rfl

/-- The buffers stretch 7 after the loop writes. -/
abbrev wr7 : List (Ref sig .tc) := [main_call5_v0, main_call5_cst, main_call5_c, main_call5_v1_0, main_v96]
/-- Stretch 7 writes only those. -/
theorem wr7_writes : (hostOps0_7 : List (HloOp τ sig (Elt F))).Forall fun op => op.writes ⊆ (wr7.map (Proc.devRef (τ := τ) .tc)).toFinset :=
  StableHlo.forall_writes_sub_of_map rfl

/-- The buffers stretch 8 after the loop writes. -/
abbrev wr8 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v97]
/-- Stretch 8 writes only those. -/
theorem wr8_writes : (hostOps0_8 : List (HloOp τ sig (Elt F))).Forall fun op => op.writes ⊆ (wr8.map (Proc.devRef (τ := τ) .tc)).toFinset :=
  StableHlo.forall_writes_sub_of_map rfl

/-- The buffers stretch 9 after the loop writes. -/
abbrev wr9 : List (Ref sig .tc) := [main_v98, main_v99, main_v100, main_v101, main_v102, main_v103, main_v104, main_cst_20, main_v105, main_cst_21, main_v106, main_cst_22, main_v107, main_v108, main_v109]
/-- Stretch 9 writes only those. -/
theorem wr9_writes : (hostOps0_9 : List (HloOp τ sig (Elt F))).Forall fun op => op.writes ⊆ (wr9.map (Proc.devRef (τ := τ) .tc)).toFinset :=
  StableHlo.forall_writes_sub_of_map rfl

/-- A buffer stretch `hostOps0` does not write keeps its contents. -/
theorem keep0 (V : Valuation τ sig (Elt F)) (r : Ref sig .tc) (h : r ∉ hostOps0_W) : after hostOps0 V (Proc.devRef .tc r) = V (Proc.devRef .tc r) :=
  after_of_writes_sub _ V hostOps0_writes h
/-- A buffer stretch `hostOps0_1` does not write keeps its contents. -/
theorem keep1 (V : Valuation τ sig (Elt F)) (r : Ref sig .tc) (h : r ∉ hostOps0_1_W) : after hostOps0_1 V (Proc.devRef .tc r) = V (Proc.devRef .tc r) :=
  after_of_writes_sub _ V hostOps0_1_writes h
/-- A buffer stretch `hostOps0_2` does not write keeps its contents. -/
theorem keep2 (V : Valuation τ sig (Elt F)) (r : Ref sig .tc) (h : r ∉ hostOps0_2_W) : after hostOps0_2 V (Proc.devRef .tc r) = V (Proc.devRef .tc r) :=
  after_of_writes_sub _ V hostOps0_2_writes h
/-- A buffer stretch `hostOps0_3` does not write keeps its contents. -/
theorem keep3 (V : Valuation τ sig (Elt F)) (r : Ref sig .tc) (h : r ∉ hostOps0_3_W) : after hostOps0_3 V (Proc.devRef .tc r) = V (Proc.devRef .tc r) :=
  after_of_writes_sub _ V hostOps0_3_writes h
/-- A buffer stretch `hostOps0_4` does not write keeps its contents. -/
theorem keep4 (V : Valuation τ sig (Elt F)) (r : Ref sig .tc) (h : r ∉ hostOps0_4_W) : after hostOps0_4 V (Proc.devRef .tc r) = V (Proc.devRef .tc r) :=
  after_of_writes_sub _ V hostOps0_4_writes h
/-- A buffer stretch `hostOps0_5` does not write keeps its contents. -/
theorem keep5 (V : Valuation τ sig (Elt F)) (r : Ref sig .tc) (h : r ∉ hostOps0_5_W) : after hostOps0_5 V (Proc.devRef .tc r) = V (Proc.devRef .tc r) :=
  after_of_writes_sub _ V hostOps0_5_writes h
/-- A buffer stretch `hostOps0_6` does not write keeps its contents. -/
theorem keep6 (V : Valuation τ sig (Elt F)) (r : Ref sig .tc) (h : r ∉ wr6) : after hostOps0_6 V (Proc.devRef .tc r) = V (Proc.devRef .tc r) :=
  after_of_writes_sub _ V wr6_writes h
/-- A buffer stretch `hostOps0_7` does not write keeps its contents. -/
theorem keep7 (V : Valuation τ sig (Elt F)) (r : Ref sig .tc) (h : r ∉ wr7) : after hostOps0_7 V (Proc.devRef .tc r) = V (Proc.devRef .tc r) :=
  after_of_writes_sub _ V wr7_writes h
/-- A buffer stretch `hostOps0_8` does not write keeps its contents. -/
theorem keep8 (V : Valuation τ sig (Elt F)) (r : Ref sig .tc) (h : r ∉ wr8) : after hostOps0_8 V (Proc.devRef .tc r) = V (Proc.devRef .tc r) :=
  after_of_writes_sub _ V wr8_writes h
/-- A buffer stretch `hostOps0_9` does not write keeps its contents. -/
theorem keep9 (V : Valuation τ sig (Elt F)) (r : Ref sig .tc) (h : r ∉ wr9) : after hostOps0_9 V (Proc.devRef .tc r) = V (Proc.devRef .tc r) :=
  after_of_writes_sub _ V wr9_writes h
/-- A buffer the loop's condition does not write keeps its contents through it. -/
theorem keepC (V : Valuation τ sig (Elt F)) (r : Ref sig .tc) (h : r ∉ condOps_W) : after condOps V (Proc.devRef .tc r) = V (Proc.devRef .tc r) :=
  after_of_writes_sub _ V condOps_writes h
/-- A buffer no operation of the loop's body writes keeps its contents through a trip. -/
theorem keepB (V : Valuation τ sig (Elt F)) (r : Ref sig .tc) (h0 : r ∉ while0Ops0_W) (h1 : r ∉ while0Ops0_1_W)
    (h2 : r ∉ while0Ops0_2_W) (h3 : r ∉ while0Ops0_3_W) : afterL bodyI V (Proc.devRef .tc r) = V (Proc.devRef .tc r) := by
  simp only [afterL_cons, afterL_nil]
  rw [after_of_writes_sub _ _ while0Ops0_3_writes h3, after_of_writes_sub _ _ while0Ops0_2_writes h2,
    after_of_writes_sub _ _ while0Ops0_1_writes h1, after_of_writes_sub _ _ while0Ops0_writes h0]

variable (m : (ℓ : Loc nD τ sig) → Buf (Elt F) ℓ) (ρ : Dev nD → PrngReg)

/-- A buffer the loop never writes is, before every trip, what it was before the loop. -/
theorem atK_keep (c : Dev nD) (r : Ref sig .tc) (hc : r ∉ condOps_W) (h0 : r ∉ while0Ops0_W) (h1 : r ∉ while0Ops0_1_W)
    (h2 : r ∉ while0Ops0_2_W) (h3 : r ∉ while0Ops0_3_W) :
    ∀ k, atK m k c (Proc.devRef .tc r) = entryContents preI m c (Proc.devRef .tc r)
  | 0 => rfl
  | k + 1 => by
    rw [show atK m (k + 1) c = afterL bodyI (after condOps (atK m k c)) from rfl, keepB _ r h0 h1 h2 h3, keepC _ r hc,
      atK_keep c r hc h0 h1 h2 h3 k]

/-- The contents after the loop's last condition. -/
abbrev U6 (c : Dev nD) : Valuation τ sig (Elt F) := after condOps (atK m 511 c)

/-- A buffer the loop never writes ends the loop as it entered it. -/
theorem U6_keep (c : Dev nD) (r : Ref sig .tc) (hc : r ∉ condOps_W) (h0 : r ∉ while0Ops0_W) (h1 : r ∉ while0Ops0_1_W)
    (h2 : r ∉ while0Ops0_2_W) (h3 : r ∉ while0Ops0_3_W) :
    U6 m c (Proc.devRef .tc r) = entryContents preI m c (Proc.devRef .tc r) :=
  (keepC _ r hc).trans (atK_keep m c r hc h0 h1 h2 h3 511)

/-- The references no operation of the program writes: its arguments. -/
abbrev argRefs : List (Ref sig .tc) := [main_arg0, main_arg1, main_arg2, main_arg3, main_arg4, main_arg5, main_arg6, main_arg7, main_arg8, main_arg9, main_arg10, main_arg11, main_arg12, main_arg13, main_arg14]

/-- An argument is unchanged at the loop's entry. -/
theorem entry_arg (c : Dev nD) (r : Ref sig .tc) (h : r ∈ argRefs) :
    entryContents preI m c (Proc.devRef .tc r) = m ((c.tc : Thread nD τ).loc r) := by
  simp only [entryContents, afterL_cons, afterL_nil]
  fin_cases h <;>
  (rw [keep5 _ _ (by decide), keep4 _ _ (by decide), keep3 _ _ (by decide), keep2 _ _ (by decide), keep1 _ _ (by decide), keep0 _ _ (by decide)])

/-- An argument is unchanged at the program's end. -/
theorem final_arg (c : Dev nD) (r : Ref sig .tc) (h : r ∈ argRefs) :
    finalContents condOps preI bodyI postI 511 m c (Proc.devRef .tc r) = m ((c.tc : Thread nD τ).loc r) := by
  refine Eq.trans ?_ (entry_arg m c r h)
  simp only [finalContents, afterL_cons, afterL_nil]
  fin_cases h <;>
  (rw [keep9 _ _ (by decide), keep8 _ _ (by decide), keep7 _ _ (by decide), keep6 _ _ (by decide)]
   exact U6_keep m c _ (by decide) (by decide) (by decide) (by decide) (by decide))

/-- The reference's frame: it runs to an end, every argument unchanged and every counter at zero. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) ∧ r.2.sem = fun _ => 0) :=
  (θ_run _ _ _).mono (fun r h => ⟨fun c =>
    ⟨(h c main_arg0 rfl).trans (final_arg m c main_arg0 (by decide)),
     (h c main_arg1 rfl).trans (final_arg m c main_arg1 (by decide)),
     (h c main_arg2 rfl).trans (final_arg m c main_arg2 (by decide)),
     (h c main_arg3 rfl).trans (final_arg m c main_arg3 (by decide)),
     (h c main_arg4 rfl).trans (final_arg m c main_arg4 (by decide)),
     (h c main_arg5 rfl).trans (final_arg m c main_arg5 (by decide)),
     (h c main_arg6 rfl).trans (final_arg m c main_arg6 (by decide)),
     (h c main_arg7 rfl).trans (final_arg m c main_arg7 (by decide)),
     (h c main_arg8 rfl).trans (final_arg m c main_arg8 (by decide)),
     (h c main_arg9 rfl).trans (final_arg m c main_arg9 (by decide)),
     (h c main_arg10 rfl).trans (final_arg m c main_arg10 (by decide)),
     (h c main_arg11 rfl).trans (final_arg m c main_arg11 (by decide)),
     (h c main_arg12 rfl).trans (final_arg m c main_arg12 (by decide)),
     (h c main_arg13 rfl).trans (final_arg m c main_arg13 (by decide)),
     (h c main_arg14 rfl).trans (final_arg m c main_arg14 (by decide))⟩,
    Idealize.ShloMosaic.sem_eq_zero_of_no_sems (by decide) r.2⟩) (run_fold m ρ)

end Cert.Proof.Ref

end
-- ==== Proof.Model.lean ====
module

public import Idealize.ShloMosaic.Lib.Pointwise
public import Mathlib.Data.EReal.Operations

@[expose] public section

set_option maxRecDepth 16384

/-! The mathematics both programs compute, over the extended reals, at plain finite indices. -/

noncomputable section

namespace Cert.Proof.Model

open Idealize.ShloMosaic

/-- The fifteen arguments, read at plain indices. -/
structure In where
  x : Fin 16 → Fin 512 → Fin 1024 → EReal
  w1 : Fin 512 → Fin 1024 → EReal
  b1 : Fin 512 → EReal
  w2 : Fin 256 → Fin 512 → EReal
  b2 : Fin 256 → EReal
  cw : Fin 256 → Fin 256 → Fin 3 → EReal
  cz : Fin 256 → EReal
  cb : Fin 1024 → Fin 256 → EReal
  wih : Fin 768 → Fin 256 → EReal
  whh : Fin 768 → Fin 256 → EReal
  bih : Fin 768 → EReal
  bhh : Fin 768 → EReal
  wcb : Fin 128 → Fin 256 → EReal
  aw : Fin 256 → Fin 256 → EReal
  ab : Fin 256 → EReal

/-- The constant two, as the programs spell it. -/
abbrev two : EReal := Ideal.ofBits .f32 0x40000000#32

/-- The first index at which a family takes its least value. -/
def am {n : ℕ} [NeZero n] (d : Fin n → EReal) : Fin n :=
  (Finset.univ.filter fun i => ∀ j, d i ≤ d j).min' (by
    obtain ⟨i, _, hi⟩ := Finset.exists_min_image Finset.univ d ⟨0, Finset.mem_univ _⟩
    exact ⟨i, by simpa using fun j => hi j (Finset.mem_univ _)⟩)

/-- No entry is below the entry at the chosen index. -/
theorem am_le {n : ℕ} [NeZero n] (d : Fin n → EReal) (j : Fin n) : d (am d) ≤ d j := by
  have h := Finset.min'_mem (Finset.univ.filter fun i => ∀ j, d i ≤ d j) (by
    obtain ⟨i, _, hi⟩ := Finset.exists_min_image Finset.univ d ⟨0, Finset.mem_univ _⟩
    exact ⟨i, by simpa using fun j => hi j (Finset.mem_univ _)⟩)
  exact (Finset.mem_filter.1 h).2 j

/-- Every index with a least entry is at or after the chosen one. -/
theorem am_first {n : ℕ} [NeZero n] (d : Fin n → EReal) (i : Fin n) (h : ∀ j, d i ≤ d j) : am d ≤ i :=
  Finset.min'_le _ _ (by simpa using h)

/-- An index with a least entry and only larger entries before it is the chosen one. -/
theorem am_eq {n : ℕ} [NeZero n] (d : Fin n → EReal) (i : Fin n) (h : ∀ j, d i ≤ d j)
    (h' : ∀ j, j < i → d i < d j) : am d = i := by
  refine le_antisymm (am_first d i h) (not_lt.1 fun hlt => ?_)
  exact absurd (h' _ hlt) (not_lt.2 (am_le d i))

variable (a : In)

/-- The first layer. -/
def h1 (b : Fin 16) (t : Fin 512) (j : Fin 512) : EReal :=
  max (∑ k, a.x b t k * a.w1 j k + a.b1 j) 0

/-- The second layer. -/
def h2 (b : Fin 16) (t : Fin 512) (j : Fin 256) : EReal :=
  max (∑ k, h1 a b t k * a.w2 j k + a.b2 j) 0

/-- The second layer with a row of zeros before and after. -/
def hp (b : Fin 16) (s : ℕ) (j : Fin 256) : EReal :=
  if h : 1 ≤ s ∧ s - 1 < 512 then h2 a b ⟨s - 1, h.2⟩ j else 0

/-- The convolution of width three. -/
def feats (b : Fin 16) (t : Fin 512) (o : Fin 256) : EReal :=
  (∑ k, hp a b t k * a.cw o k 0) + (∑ k, hp a b (t + 1) k * a.cw o k 1)
    + (∑ k, hp a b (t + 2) k * a.cw o k 2) + a.cz o

/-- The expanded squared distance of a row to a code. -/
def dist (f : Fin 256 → EReal) (c : Fin 256 → EReal) : EReal :=
  (∑ k, f k * f k) - two * (∑ k, f k * c k) + ∑ k, c k * c k

/-- The nearest code of every row. -/
def idx (b : Fin 16) (t : Fin 512) : Fin 1024 := am fun n => dist (feats a b t) (a.cb n)

/-- The quantised row. -/
def q (b : Fin 16) (t : Fin 512) (j : Fin 256) : EReal := a.cb (idx a b t) j

/-- The mean of the two rows of a word. -/
def wm (b : Fin 16) (w : Fin 256) (j : Fin 256) : EReal :=
  Ideal.div (q a b ⟨2 * w, by omega⟩ j + q a b ⟨2 * w + 1, by omega⟩ j) two

/-- The nearest word of every pair of rows. -/
def widx (b : Fin 16) (w : Fin 256) : Fin 128 := am fun n => dist (wm a b w) (a.wcb n)

/-- The first linear map of the recurrent layer, both biases added. -/
def gi (b : Fin 16) (t : Fin 512) (g : Fin 768) : EReal := ∑ k, q a b t k * a.wih g k + (a.bih g + a.bhh g)

/-- One step of the recurrent layer from the two linear maps' values. -/
def cell (i : Fin 768 → EReal) (u : Fin 768 → EReal) (h : Fin 256 → EReal) (j : Fin 256) : EReal :=
  (1 - Ideal.logistic (i ⟨256 + j, by omega⟩ + u ⟨256 + j, by omega⟩))
      * Ideal.tanh (i ⟨512 + j, by omega⟩
          + Ideal.logistic (i ⟨j, by omega⟩ + u ⟨j, by omega⟩) * u ⟨512 + j, by omega⟩)
    + Ideal.logistic (i ⟨256 + j, by omega⟩ + u ⟨256 + j, by omega⟩) * h j

/-- The row number of a step count. -/
def row (t : ℕ) : Fin 512 := ⟨t % 512, Nat.mod_lt _ (by decide)⟩

/-- The hidden state before step `t`. -/
def hid (b : Fin 16) : ℕ → Fin 256 → EReal
  | 0 => fun _ => 0
  | t + 1 => cell (gi a b (row t)) (fun g => ∑ k, hid b t k * a.whh g k) (hid b t)

/-- The summed squared distance of rows to their codes. -/
def commitSum : EReal :=
  ∑ b, ∑ t, ∑ j, (feats a b t j - q a b t j) * (feats a b t j - q a b t j)

/-- The commitment loss. -/
def commit : EReal := Ideal.div (commitSum a) (Ideal.ofBits .f32 0x4A000000#32)

/-- The summed squared prediction error of the recurrent layer. -/
def ctxSum : EReal :=
  ∑ b : Fin 16, ∑ t : Fin 511, ∑ j,
    (hid a b (t + 1) j - feats a b ⟨t + 1, by omega⟩ j) * (hid a b (t + 1) j - feats a b ⟨t + 1, by omega⟩ j)

/-- The context loss. -/
def ctx : EReal := Ideal.div (ctxSum a) (Ideal.ofBits .f32 0x49FF8000#32)

/-- The quantisation loss. -/
def vq : EReal :=
  commit a + Ideal.ofBits .f32 0x3E800000#32 * commit a + Ideal.ofBits .f32 0x3DCCCCCD#32 * ctx a

/-- The squared projection error of a word. -/
def pe (n : Fin 128) : EReal :=
  ∑ j, (∑ k, a.wcb n k * a.aw j k + a.ab j - a.wcb n j) * (∑ k, a.wcb n k * a.aw j k + a.ab j - a.wcb n j)

/-- The alignment loss. -/
def align : EReal := Ideal.div (∑ b, ∑ w, pe a (widx a b w)) (Ideal.ofBits .f32 0x49800000#32)

/-- The total loss. -/
def total : EReal := vq a + align a * Ideal.ofBits .f32 0x3DCCCCCD#32

end Cert.Proof.Model
-- ==== Proof.Math.lean ====
module

public import proofs.«01_k».proof.Proof.Model

@[expose] public section

set_option maxRecDepth 16384

/-! Facts about least indices, one-hot rows and finite sums the two programs' values are compared by. -/

noncomputable section

namespace Cert.Proof.Model

open Idealize.ShloMosaic

/-- Folding the minimum from positive infinity gives the entry at the first least index. -/
theorem fold_min {n : ℕ} [NeZero n] (d : Fin n → EReal) :
    Finset.univ.fold min (Ideal.ofBits .f32 0x7F800000#32) d = d (am d) := by
  have htop : Ideal.ofBits .f32 0x7F800000#32 = ⊤ := by simp [Ideal.ofBits, Ideal.ieee]
  refine le_antisymm ?_ ?_
  · exact (Finset.fold_min_le _).2 (Or.inr ⟨am d, Finset.mem_univ _, le_rfl⟩)
  · exact (Finset.le_fold_min _).2 ⟨by rw [htop]; exact le_top, fun j _ => am_le d j⟩

/-- The signed word minimum is commutative and associative, and on small words the minimum of their numbers. -/
theorem minsi_small {a b : ℕ} (ha : a < 2 ^ 31) (hb : b < 2 ^ 31) :
    IntOp.minsi (BitVec.ofNat 32 a) (BitVec.ofNat 32 b) = BitVec.ofNat 32 (min a b) := by
  have h1 : (BitVec.ofNat 32 a).toInt = a := by
    rw [BitVec.toInt_eq_toNat_of_lt] <;> simp [BitVec.toNat_ofNat] <;> omega
  have h2 : (BitVec.ofNat 32 b).toInt = b := by
    rw [BitVec.toInt_eq_toNat_of_lt] <;> simp [BitVec.toNat_ofNat] <;> omega
  unfold IntOp.minsi
  simp only [BitVec.slt, h1, h2, decide_eq_true_eq]
  rcases lt_trichotomy a b with h | h | h <;> simp [*, Nat.le_of_lt, Nat.min_eq_left, Nat.min_eq_right] <;> omega

/-- Folding the word minimum over small words is the word of the folded minimum. -/
theorem fold_minsi_small {ι : Type*} (s : Finset ι) (f : ι → ℕ) (hf : ∀ i, f i < 2 ^ 31) :
    s.fold IntOp.minsi 2147483647#32 (fun i => BitVec.ofNat 32 (f i))
      = BitVec.ofNat 32 (s.fold min 2147483647 f) := by
  classical
  induction s using Finset.induction_on with
  | empty => rfl
  | insert i s hi ih =>
    rw [Finset.fold_insert hi, Finset.fold_insert hi, ih, minsi_small (hf i)]
    exact lt_of_le_of_lt ((Finset.fold_min_le _).2 (Or.inl le_rfl)) (by decide)

/-- The least index at which a family equals its least value, found by the word minimum over an equality mask. -/
theorem fold_minsi {n : ℕ} [NeZero n] (hn : n < 2 ^ 31) (d : Fin n → EReal) (m : EReal) (hm : m = d (am d)) (c : BitVec 32)
    (hc : c = BitVec.ofNat 32 n) :
    Finset.univ.fold IntOp.minsi 2147483647#32 (fun i : Fin n => if d i = m then BitVec.ofNat 32 i else c)
      = BitVec.ofNat 32 (am d) := by
  subst hm hc
  have e : (fun i : Fin n => if d i = d (am d) then BitVec.ofNat 32 i else BitVec.ofNat 32 n)
      = fun i : Fin n => BitVec.ofNat 32 (if d i = d (am d) then (i : ℕ) else n) := by
    funext i; split <;> rfl
  rw [e, fold_minsi_small _ _ (fun i => by split <;> omega)]
  congr 1
  refine le_antisymm ?_ ?_
  · exact (Finset.fold_min_le _).2 (Or.inr ⟨am d, Finset.mem_univ _, by simp⟩)
  · refine (Finset.le_fold_min _).2 ⟨by have := (am d).isLt; omega, fun j _ => ?_⟩
    split
    · next h => exact am_first d j fun k => h ▸ am_le d k
    · exact (am d).isLt.le

/-- A word is one small number exactly when the numbers agree. -/
theorem ofNat_inj {a b : ℕ} (ha : a < 2 ^ 32) (hb : b < 2 ^ 32) : (BitVec.ofNat 32 a = BitVec.ofNat 32 b) ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A one-hot entry chosen by comparing two words. -/
theorem select_eq {a b : ℕ} (ha : a < 2 ^ 32) (hb : b < 2 ^ 32) (x y : EReal) :
    Scalar.select (IntOp.cmpi .eq (BitVec.ofNat 32 a) (BitVec.ofNat 32 b)) x y = if a = b then x else y := by
  unfold Scalar.select IntOp.cmpi
  by_cases h : a = b
  · subst h; simp
  · have := (not_congr (ofNat_inj ha hb)).2 h
    have h' : (BitVec.ofNat 32 a == BitVec.ofNat 32 b) = false := by simpa using this
    simp [h, h']

/-- A one-hot row picks one term of a sum. -/
theorem sum_onehot {n : ℕ} (i : Fin n) (f : Fin n → EReal) : (∑ k : Fin n, (if (k : ℕ) = i then (1 : EReal) else 0) * f k) = f i := by
  rw [Finset.sum_eq_single i]
  · simp
  · intro b _ hb
    have : (b : ℕ) ≠ i := fun h => hb (Fin.ext h)
    simp [this]
  · simp

/-- The constant two is the number two. -/
theorem two_eq : two = ((2 : ℝ) : EReal) := by
  simp only [two, Ideal.ofBits, Ideal.ieee]
  simp [-EReal.coe_mul, ← EReal.coe_mul]
  norm_num

/-- The constant one half is the number one half. -/
theorem half_eq : Ideal.ofBits .f32 0x3F000000#32 = ((1 / 2 : ℝ) : EReal) := by
  simp only [Ideal.ofBits, Ideal.ieee]
  simp [-EReal.coe_mul, ← EReal.coe_mul]
  norm_num

/-- Half of one number and half of another is their sum divided by two. -/
theorem half_mean (x y : EReal) :
    Ideal.ofBits .f32 0x3F000000#32 * x + Ideal.ofBits .f32 0x3F000000#32 * y = Ideal.div (x + y) two := by
  rw [two_eq, half_eq, Ideal.div_coe (by norm_num), mul_comm (x + y),
    EReal.left_distrib_of_nonneg_of_ne_top (by exact_mod_cast (by norm_num : (0 : ℝ) ≤ 1 / 2)) (EReal.coe_ne_top _)]

/-- Averaging one-hot rows in pairs and looking the codes up is averaging the looked-up codes in pairs. -/
theorem pair_mean {n : ℕ} (i : Fin 512 → Fin n) (c : Fin n → EReal) (w : Fin 256) :
    (∑ k : Fin n, (∑ t : Fin 512, if (t : ℕ) / 2 = w
        then Ideal.ofBits .f32 0x3F000000#32 * (if (k : ℕ) = i t then (1 : EReal) else 0) else 0) * c k)
      = Ideal.div (c (i ⟨2 * w, by omega⟩) + c (i ⟨2 * w + 1, by omega⟩)) two := by
  rw [← half_mean, ← sum_onehot (i ⟨2 * w, by omega⟩) c, ← sum_onehot (i ⟨2 * w + 1, by omega⟩) c]
  have hh : (0 : EReal) ≤ Ideal.ofBits .f32 0x3F000000#32 := by
    rw [half_eq]; exact_mod_cast (by norm_num : (0 : ℝ) ≤ 1 / 2)
  have ht : Ideal.ofBits .f32 0x3F000000#32 ≠ ⊤ := by rw [half_eq]; exact EReal.coe_ne_top _
  have e : ∀ k : Fin n, (∑ t : Fin 512, if (t : ℕ) / 2 = w
        then Ideal.ofBits .f32 0x3F000000#32 * (if (k : ℕ) = i t then (1 : EReal) else 0) else 0)
      = Ideal.ofBits .f32 0x3F000000#32 * (if (k : ℕ) = i ⟨2 * w, by omega⟩ then (1 : EReal) else 0)
        + Ideal.ofBits .f32 0x3F000000#32 * (if (k : ℕ) = i ⟨2 * w + 1, by omega⟩ then (1 : EReal) else 0) := by
    intro k
    rw [← Finset.sum_filter]
    have : (Finset.univ.filter fun t : Fin 512 => (t : ℕ) / 2 = w)
        = {(⟨2 * w, by omega⟩ : Fin 512), (⟨2 * w + 1, by omega⟩ : Fin 512)} := by
      ext t
      simp only [Finset.mem_filter, Finset.mem_univ, true_and, Finset.mem_insert, Finset.mem_singleton, Fin.ext_iff]
      omega
    rw [this, Finset.sum_pair (by simp [Fin.ext_iff])]
  have hn : ∀ (p : Prop) [Decidable p], (0 : EReal) ≤ Ideal.ofBits .f32 0x3F000000#32 * (if p then (1 : EReal) else 0) := by
    intro p _; split <;> simp [hh]
  simp only [e]
  rw [Finset.sum_congr rfl fun k _ => EReal.right_distrib_of_nonneg (hn _) (hn _), Finset.sum_add_distrib]
  have pull : ∀ j : Fin n, (∑ k : Fin n, Ideal.ofBits .f32 0x3F000000#32 * (if (k : ℕ) = j then (1 : EReal) else 0) * c k)
      = Ideal.ofBits .f32 0x3F000000#32 * ∑ k : Fin n, (if (k : ℕ) = j then (1 : EReal) else 0) * c k := by
    intro j
    rw [sum_onehot, ← sum_onehot j fun k => Ideal.ofBits .f32 0x3F000000#32 * c k]
    exact Finset.sum_congr rfl fun k _ => by ac_rfl
  rw [pull, pull]

/-- The word of a position's pair number, as the program computes it. -/
theorem pair_word (t : Fin 512) :
    Scalar.select (IntOp.andi
                  (IntOp.cmpi CmpIPredicate.ne
                    (IntOp.subi (BitVec.setWidth 32 (IntOp.cmpi CmpIPredicate.sgt (BitVec.ofNat 32 ↑t) 0#32))
                      (BitVec.setWidth 32 (IntOp.cmpi CmpIPredicate.slt (BitVec.ofNat 32 ↑t) 0#32)))
                    (Scalar.subi (Scalar.extui (Scalar.cmpi CmpIPredicate.sgt 2#32 0#32))
                      (Scalar.extui (Scalar.cmpi CmpIPredicate.slt 2#32 0#32))))
                  (IntOp.cmpi CmpIPredicate.ne (IntOp.remsi ArithUnit.vector (BitVec.ofNat 32 ↑t) 2#32) 0#32))
                (IntOp.subi (IntOp.divsi ArithUnit.vector (BitVec.ofNat 32 ↑t) 2#32) 1#32)
                (IntOp.divsi ArithUnit.vector (BitVec.ofNat 32 ↑t) 2#32)
      = BitVec.ofNat 32 (t / 2) := by
  revert t
  decide +kernel

/-- Summing a family weighted by how often each index was chosen is summing it over the choices. -/
theorem sum_counts {m n : ℕ} (i : Fin m → Fin n) (f : Fin n → EReal) :
    (∑ k : Fin n, (∑ u : Fin m, if (k : ℕ) = i u then (1 : EReal) else 0) * f k) = ∑ u : Fin m, f (i u) := by
  have hd : ∀ k : Fin n, (∑ u : Fin m, if (k : ℕ) = i u then (1 : EReal) else 0) * f k
      = ∑ u : Fin m, (if (k : ℕ) = i u then (1 : EReal) else 0) * f k := by
    intro k
    induction (Finset.univ : Finset (Fin m)) using Finset.induction_on with
    | empty => simp
    | insert u s hu ih =>
      rw [Finset.sum_insert hu, Finset.sum_insert hu, ← ih]
      exact EReal.right_distrib_of_nonneg (by split <;> simp) (Finset.sum_nonneg fun v _ => by split <;> simp)
  simp only [hd]
  rw [Finset.sum_comm]
  exact Finset.sum_congr rfl fun u _ => sum_onehot (i u) f

end Cert.Proof.Model
-- ==== Proof.KPay.lean ====
module

public import proofs.«01_k».proof.Proof.Gen.KernelIdeal.Skeleton
public import proofs.«01_k».proof.Proof.Math
public import Idealize.ShloMosaic.Lib.Pointwise

@[expose] public section

set_option maxRecDepth 16384

/-! What the first region's body stores, read at an index, as sums and least indices of what it loaded. -/

noncomputable section

namespace Cert.Proof.K

open Idealize.ShloMosaic Idealize.ShloMosaic.TcCoe Idealize.SL.Sem
open Cert.KernelIdeal Cert.KernelIdeal.Gen
open Cert.Proof.Model (two am dist)

/-- The two layers at a row and a column. -/
theorem pay4 (x : Vec Ideal S1x512x1024 .f32) (w1 : Vec Ideal S1024x512 .f32) (b1 : Vec Ideal S1x512 .f32)
    (w2 : Vec Ideal S512x256 .f32) (b2 : Vec Ideal S1x256 .f32) (t : Fin 512) (j : Fin 256) :
    k0_pay4 (F := Ideal) x w1 b1 w2 b2 (ix2 t j)
      = max (∑ l : Fin 512, max (∑ k : Fin 1024, x (ix3 0 t k) * w1 (ix2 k l) + b1 (ix2 0 l)) 0 * w2 (ix2 l j) + b2 (ix2 0 j)) 0 := by
  pointwise [k0_pay4]

/-- The rows of zeros. -/
theorem pay2 (t : Fin 8) (j : Fin 256) : k0_pay2 (F := Ideal) (ix2 t j) = 0 := by pointwise [k0_pay2]

/-- The rows of zeros. -/
theorem pay3 (t : Fin 8) (j : Fin 256) : k0_pay3 (F := Ideal) (ix2 t j) = 0 := by pointwise [k0_pay3]

/-- The convolution at a row and a column. -/
theorem pay5 (u v w : Vec Ideal S512x256 .f32) (c0 c1 c2 : Vec Ideal S256x256 .f32) (z : Vec Ideal S1x256 .f32)
    (t : Fin 512) (j : Fin 256) :
    k0_pay5 (F := Ideal) u v w c0 c1 c2 z (ix2 t j)
      = (∑ k : Fin 256, u (ix2 t k) * c0 (ix2 k j)) + (∑ k : Fin 256, v (ix2 t k) * c1 (ix2 k j))
        + (∑ k : Fin 256, w (ix2 t k) * c2 (ix2 k j)) + z (ix2 0 j) := by
  pointwise [k0_pay5]

/-- The stored convolution. -/
theorem pay6 (u v w : Vec Ideal S512x256 .f32) (c0 c1 c2 : Vec Ideal S256x256 .f32) (z : Vec Ideal S1x256 .f32)
    (t : Fin 512) (j : Fin 256) :
    k0_pay6 (F := Ideal) u v w c0 c1 c2 z (ix3 0 t j) = k0_pay5 (F := Ideal) u v w c0 c1 c2 z (ix2 t j) := by
  pointwise [k0_pay6]

/-- The squared norm of a row. -/
theorem pay7 (u v w : Vec Ideal S512x256 .f32) (c0 c1 c2 : Vec Ideal S256x256 .f32) (z : Vec Ideal S1x256 .f32) (t : Fin 512) :
    k0_pay7 (F := Ideal) u v w c0 c1 c2 z (ix2 t 0)
      = ∑ j : Fin 256, k0_pay5 (F := Ideal) u v w c0 c1 c2 z (ix2 t j) * k0_pay5 (F := Ideal) u v w c0 c1 c2 z (ix2 t j) := by
  pointwise [k0_pay7]

/-- The products of a row with the codes. -/
theorem pay8 (u v w : Vec Ideal S512x256 .f32) (c0 c1 c2 : Vec Ideal S256x256 .f32) (z : Vec Ideal S1x256 .f32)
    (cbt : Vec Ideal S256x1024 .f32) (t : Fin 512) (n : Fin 1024) :
    k0_pay8 (F := Ideal) u v w c0 c1 c2 z cbt (ix2 t n)
      = ∑ j : Fin 256, k0_pay5 (F := Ideal) u v w c0 c1 c2 z (ix2 t j) * cbt (ix2 j n) := by
  pointwise [k0_pay8]

/-- The squared codes. -/
theorem pay9 (x y : Vec Ideal S256x1024 .f32) (j : Fin 256) (n : Fin 1024) :
    k0_pay9 (F := Ideal) x y (ix2 j n) = x (ix2 j n) * y (ix2 j n) := by pointwise [k0_pay9]

section
variable (v54 : FVec Ideal S512x1 .f32) (v57 : FVec Ideal S512x1024 .f32) (v62 : FVec Ideal S256x1024 .f32)

/-- The expanded squared distances. -/
theorem pay10 (t : Fin 512) (n : Fin 1024) :
    k0_pay10 (F := Ideal) v54 v57 v62 (ix2 t n) = v54 (ix2 t 0) - two * v57 (ix2 t n) + ∑ k : Fin 256, v62 (ix2 k n) := by
  pointwise [k0_pay10]

/-- The least distance of a row. -/
theorem pay11 (t : Fin 512) :
    k0_pay11 (F := Ideal) v54 v57 v62 (ix2 t 0)
      = k0_pay10 v54 v57 v62 (ix2 t (am fun n : Fin 1024 => k0_pay10 v54 v57 v62 (ix2 t n))) := by
  pointwise [k0_pay11]
  exact Model.fold_min fun n : Fin 1024 => k0_pay10 v54 v57 v62 (ix2 t n)

/-- The number of a row's nearest code. -/
theorem pay12 (t : Fin 512) :
    k0_pay12 (F := Ideal) v54 v57 v62 (ix2 t 0)
      = BitVec.ofNat 32 (am fun n : Fin 1024 => k0_pay10 v54 v57 v62 (ix2 t n)) := by
  pointwise [k0_pay12]
  exact Model.fold_minsi (by decide) (fun n : Fin 1024 => k0_pay10 v54 v57 v62 (ix2 t n)) _ (pay11 v54 v57 v62 t) _ rfl

/-- The stored number of a row's nearest code. -/
theorem pay13 (t : Fin 512) :
    k0_pay13 (F := Ideal) v54 v57 v62 (ix3 0 t 0)
      = BitVec.ofNat 32 (am fun n : Fin 1024 => k0_pay10 v54 v57 v62 (ix2 t n)) := by
  pointwise [k0_pay13]
  exact pay12 v54 v57 v62 t

/-- The sum of a block's least distances. -/
theorem pay14 :
    k0_pay14 (F := Ideal) v54 v57 v62 (ix3 0 0 0)
      = ∑ t : Fin 512, k0_pay10 v54 v57 v62 (ix2 t (am fun n : Fin 1024 => k0_pay10 v54 v57 v62 (ix2 t n))) := by
  have e : ∀ y : FVec Ideal S1 .f32,
      shapeCast S1x1x1 (broadcast S1x1 (extractAt ![0, 0, 0] (shapeCast S1x1x1 y shapeCasts_S1_S1x1x1) inpos_S1x1x1_p0_0_0))
        shapeCasts_S1x1_S1x1x1 (ix3 0 0 0) = y (ix1 0) := by
    intro y; pointwise
  refine (e _).trans ((Ideal.multiReduction_add_total _ _ _ (fun b => by fin_cases b; rfl) _ _ _).trans ?_)
  rw [sum_idx3]
  simp only [Fin.sum_univ_one, Fin.isValue]
  refine Finset.sum_congr rfl fun t _ => ?_
  refine Eq.trans ?_ (pay11 v54 v57 v62 t)
  pointwise

/-- The one-hot row of a row's nearest code. -/
theorem pay15 (t : Fin 512) (n : Fin 1024) :
    k0_pay15 (F := Ideal) v54 v57 v62 (ix2 t n)
      = if (n : ℕ) = (am fun n : Fin 1024 => k0_pay10 v54 v57 v62 (ix2 t n) : Fin 1024) then 1 else 0 := by
  pointwise [k0_pay15]
  rw [pay12]
  exact Model.select_eq (by omega) (by have := (am fun n : Fin 1024 => k0_pay10 v54 v57 v62 (ix2 t n)).isLt; omega) _ _

/-- The quantised row's products with the first recurrent weights. -/
theorem pay16 (cb : Vec Ideal S1024x256 .f32) (w : Vec Ideal S256x768 .f32) (t : Fin 512) (g : Fin 768) :
    k0_pay16 (F := Ideal) v54 v57 v62 cb w (ix2 t g)
      = ∑ k : Fin 256, cb (ix2 (am fun n : Fin 1024 => k0_pay10 v54 v57 v62 (ix2 t n)) k) * w (ix2 k g) := by
  pointwise [k0_pay16]
  refine Finset.sum_congr rfl fun k _ => ?_
  have key : ∑ n : Fin 1024, k0_pay15 (F := Ideal) v54 v57 v62 (ix2 t n) * cb (ix2 n k)
      = cb (ix2 (am fun n : Fin 1024 => k0_pay10 v54 v57 v62 (ix2 t n)) k) :=
    (Finset.sum_congr rfl fun n _ => congrArg (fun e : EReal => e * cb (ix2 n k)) (pay15 v54 v57 v62 t n)).trans
      (Model.sum_onehot (am fun n : Fin 1024 => k0_pay10 v54 v57 v62 (ix2 t n)) fun n => cb (ix2 n k))
  exact congrArg (fun e : EReal => e * w (ix2 k g)) key

end

/-- The bias added. -/
theorem pay17 (v : FVec Ideal S512x768 .f32) (b : Vec Ideal S1x768 .f32) (t : Fin 512) (g : Fin 768) :
    k0_pay17 (F := Ideal) v b (ix3 0 t g) = v (ix2 t g) + b (ix2 0 g) := by
  pointwise [k0_pay17]

/-- The words: the codes of two neighbouring rows averaged. -/
theorem pay18 (v : FVec Ideal S512x1024 .f32) (cb : Vec Ideal S1024x256 .f32) (i : Fin 512 → Fin 1024)
    (hv : ∀ (t : Fin 512) (n : Fin 1024), v (ix2 t n) = if (n : ℕ) = i t then 1 else 0) (w : Fin 256) (j : Fin 256) :
    k0_pay18 (F := Ideal) v cb (ix2 w j)
      = Ideal.div (cb (ix2 (i ⟨2 * w, by omega⟩) j) + cb (ix2 (i ⟨2 * w + 1, by omega⟩) j)) two := by
  pointwise [k0_pay18]
  refine Eq.trans ?_ (Model.pair_mean i (fun n => cb (ix2 n j)) w)
  refine Finset.sum_congr rfl fun n _ => congrArg (fun e : EReal => e * cb (ix2 n j)) (Finset.sum_congr rfl fun t _ => ?_)
  rw [Model.pair_word, Model.select_eq (by omega) (by omega), hv]

/-- The squared words. -/
theorem pay19 (v : FVec Ideal S512x1024 .f32) (cb : Vec Ideal S1024x256 .f32) (w : Fin 256) (j : Fin 256) :
    k0_pay19 (F := Ideal) v cb (ix2 w j) = k0_pay18 (F := Ideal) v cb (ix2 w j) * k0_pay18 (F := Ideal) v cb (ix2 w j) := by
  pointwise [k0_pay19]

section
variable (v140 v141 : FVec Ideal S256x256 .f32) (x y z : Vec Ideal S256x128 .f32)

/-- The expanded squared distance of a word to a word code. -/
def wd (w : Fin 256) (n : Fin 128) : EReal :=
  ∑ j : Fin 256, v141 (ix2 w j) - two * ∑ j : Fin 256, v140 (ix2 w j) * x (ix2 j n) + ∑ j : Fin 256, y (ix2 j n) * z (ix2 j n)

/-- The number of a word's nearest word code. -/
theorem pay20 (w : Fin 256) :
    k0_pay20 (F := Ideal) v140 v141 x y z (ix2 w 0) = BitVec.ofNat 32 (am (wd v140 v141 x y z w)) := by
  pointwise [k0_pay20]
  exact Model.fold_minsi (by decide) (wd v140 v141 x y z w) _ (Model.fold_min _) _ rfl

/-- The stored number of a word's nearest word code. -/
theorem pay21 (w : Fin 256) :
    k0_pay21 (F := Ideal) v140 v141 x y z (ix3 0 w 0) = BitVec.ofNat 32 (am (wd v140 v141 x y z w)) := by
  pointwise [k0_pay21]
  exact pay20 v140 v141 x y z w

/-- How many words of the block chose a word code. -/
theorem pay22 (n : Fin 128) :
    k0_pay22 (F := Ideal) v140 v141 x y z (ix2 0 n)
      = ∑ w : Fin 256, if (n : ℕ) = (am (wd v140 v141 x y z w) : Fin 128) then 1 else 0 := by
  pointwise [k0_pay22]
  refine Finset.sum_congr rfl fun w _ => ?_
  rw [pay20]
  exact Model.select_eq (by omega) (by have := (am (wd v140 v141 x y z w)).isLt; omega) _ _

end

/-- The block's projection errors, counted by word code. -/
theorem pay1 (c : FVec Ideal S1x128 .f32) (u : Vec Ideal S128x256 .f32) (aw : Vec Ideal S256x256 .f32) (ab : Vec Ideal S1x256 .f32)
    (v : Vec Ideal S128x256 .f32) :
    k0_pay1 (F := Ideal) c u aw ab v (ix3 0 0 0)
      = ∑ n : Fin 128, c (ix2 0 n) * ∑ j : Fin 256, (∑ k : Fin 256, u (ix2 n k) * aw (ix2 k j) + ab (ix2 0 j) - v (ix2 n j))
          * (∑ k : Fin 256, u (ix2 n k) * aw (ix2 k j) + ab (ix2 0 j) - v (ix2 n j)) := by
  pointwise [k0_pay1]

end Cert.Proof.K
-- ==== Proof.KOut.lean ====
module

public import proofs.«01_k».proof.Proof.KIRun
public import proofs.«01_k».proof.Proof.KPay
public import Idealize.ShloMosaic.Lib.Pointwise
public import Idealize.ShloMosaic.Lib.Pipeline.ValueKit.Acc
public import Idealize.ShloMosaic.Lib.Pipeline.ValueKit.Tiles

@[expose] public section

set_option maxRecDepth 16384

/-! What the first region's body leaves in its output blocks, as the payloads over the input blocks. -/

noncomputable section

namespace Cert.Proof.K

open Idealize.ShloMosaic Idealize.ShloMosaic.TcCoe Idealize.SL.Sem
open Cert.KernelIdeal Cert.KernelIdeal.Gen

/-- The rows from `o` on of the scratch buffer: the second layer from row eight on, zeros around it. -/
def ld (H : FVec Ideal S512x256 .f32) (o : ℕ) : FVec Ideal S512x256 .f32 :=
  fun j => if h : 8 ≤ o + (j 0).val ∧ o + (j 0).val - 8 < 512 then H (ix2 ⟨o + (j 0).val - 8, h.2⟩ (j 1)) else (0 : EReal)

/-- The three stores into the scratch buffer, last first. -/
abbrev padL (H : FVec Ideal S512x256 .f32) : List (View.Piece (Elt Ideal) S528x256 .f32) :=
  [⟨Rect.unit (s := S528x256) ![8, 0] ![512, 256] inb_S528x256_S512x256_8_0, H⟩,
   ⟨Rect.unit (s := S528x256) ![520, 0] ![8, 256] inb_S528x256_S8x256_520_0, k0_pay3 (F := Ideal)⟩,
   ⟨Rect.unit (s := S528x256) ![0, 0] ![8, 256] inb_S528x256_S8x256_0_0, k0_pay2 (F := Ideal)⟩]

/-- What a load of 512 rows of the scratch buffer finds. -/
theorem readCov_pad (arg24 : Memref sig .tc .vmem S528x256 .f32) (H : FVec Ideal S512x256 .f32) (o : ℕ)
    (inb : ∀ a, (![o, 0] : Fin 2 → ℕ) a + (![512, 256] : Fin 2 → ℕ) a ≤ S528x256.size a) :
    arg24.view.readCov (padL H) (Rect.unit (s := S528x256) ![o, 0] ![512, 256] inb).toLoadRect = ld H o := by
  funext j
  idx_vars j
  have hb := inb 0
  simp only [Matrix.cons_val_zero] at hb
  rw [View.readCov_eq_canon']
  dsimp only
  have e0 : (((Rect.unit (s := S528x256) ![o, 0] ![512, 256] inb).toLoadRect.idx (ix2 j0 j1)) 0 : ℕ) = o + j0 := by
    simp [LoadRect.idx]
  have e1 : (((Rect.unit (s := S528x256) ![o, 0] ![512, 256] inb).toLoadRect.idx (ix2 j0 j1)) 1 : ℕ) = j1 := by
    simp [LoadRect.idx]
  generalize ((Rect.unit (s := S528x256) ![o, 0] ![512, 256] inb).toLoadRect.idx (ix2 j0 j1)) = y at e0 e1 ⊢
  have hy : (y 0 : ℕ) < 528 := (y 0).isLt
  have hcov : ∃ p ∈ padL H, y ∈ p.1.set := by
    rcases (by omega : (8 ≤ (y 0 : ℕ) ∧ (y 0 : ℕ) < 520) ∨ 520 ≤ (y 0 : ℕ) ∨ (y 0 : ℕ) < 8) with h | h | h
    · refine ⟨(padL H)[0], List.getElem_mem _, (Rect.mem_set_unit (inb := inb_S528x256_S512x256_8_0)).2 (Fin.forall_fin_two.2 ⟨?_, ?_⟩)⟩
      · show 8 ≤ (y 0 : ℕ) ∧ (y 0 : ℕ) < 8 + 512; omega
      · show 0 ≤ (y 1 : ℕ) ∧ (y 1 : ℕ) < 0 + 256; omega
    · refine ⟨(padL H)[1], List.getElem_mem _, (Rect.mem_set_unit (inb := inb_S528x256_S8x256_520_0)).2 (Fin.forall_fin_two.2 ⟨?_, ?_⟩)⟩
      · show 520 ≤ (y 0 : ℕ) ∧ (y 0 : ℕ) < 520 + 8; omega
      · show 0 ≤ (y 1 : ℕ) ∧ (y 1 : ℕ) < 0 + 256; omega
    · refine ⟨(padL H)[2], List.getElem_mem _, (Rect.mem_set_unit (inb := inb_S528x256_S8x256_0_0)).2 (Fin.forall_fin_two.2 ⟨?_, ?_⟩)⟩
      · show 0 ≤ (y 0 : ℕ) ∧ (y 0 : ℕ) < 0 + 8; omega
      · show 0 ≤ (y 1 : ℕ) ∧ (y 1 : ℕ) < 0 + 256; omega
  unfold padL at hcov ⊢
  canon_tiles x h using hcov
  · have hl : ld H o (ix2 j0 j1) = if h : 8 ≤ o + (j0 : ℕ) ∧ o + (j0 : ℕ) - 8 < 512
        then H (ix2 ⟨o + (j0 : ℕ) - 8, h.2⟩ j1) else (0 : EReal) := rfl
    rw [hl, dif_pos ⟨by omega, by omega⟩]
    refine congrArg H (funext fun a => Fin.ext ?_)
    fin_cases a
    · show (x 0 : ℕ) = o + (j0 : ℕ) - 8; omega
    · show (x 1 : ℕ) = j1; omega
  · have hl : ld H o (ix2 j0 j1) = if h : 8 ≤ o + (j0 : ℕ) ∧ o + (j0 : ℕ) - 8 < 512
        then H (ix2 ⟨o + (j0 : ℕ) - 8, h.2⟩ j1) else (0 : EReal) := rfl
    rw [hl, dif_neg (by omega), eq_ix2 x]
    exact pay3 _ _
  · have hl : ld H o (ix2 j0 j1) = if h : 8 ≤ o + (j0 : ℕ) ∧ o + (j0 : ℕ) - 8 < 512
        then H (ix2 ⟨o + (j0 : ℕ) - 8, h.2⟩ j1) else (0 : EReal) := rfl
    rw [hl, dif_neg (by omega), eq_ix2 x]
    exact pay2 _ _

/-- The squared row norms the body computes. -/
abbrev vn (x0 : Vec Ideal S1x512x1024 .f32) (x1 : Vec Ideal S1024x512 .f32) (x2 : Vec Ideal S1x512 .f32) (x3 : Vec Ideal S512x256 .f32)
    (x4 : Vec Ideal S1x256 .f32) (x5 x6 x7 : Vec Ideal S256x256 .f32) (x10 : Vec Ideal S1x256 .f32) : FVec Ideal S512x1 .f32 :=
  k0_pay7 (F := Ideal) (ld (k0_pay4 (F := Ideal) x0 x1 x2 x3 x4) 7) (ld (k0_pay4 (F := Ideal) x0 x1 x2 x3 x4) 8) (ld (k0_pay4 (F := Ideal) x0 x1 x2 x3 x4) 9) x5 x6 x7 x10

/-- The products with the codes the body computes. -/
abbrev vd (x0 : Vec Ideal S1x512x1024 .f32) (x1 : Vec Ideal S1024x512 .f32) (x2 : Vec Ideal S1x512 .f32) (x3 : Vec Ideal S512x256 .f32)
    (x4 : Vec Ideal S1x256 .f32) (x5 x6 x7 : Vec Ideal S256x256 .f32) (x10 : Vec Ideal S1x256 .f32)
    (x9 : Vec Ideal S256x1024 .f32) : FVec Ideal S512x1024 .f32 :=
  k0_pay8 (F := Ideal) (ld (k0_pay4 (F := Ideal) x0 x1 x2 x3 x4) 7) (ld (k0_pay4 (F := Ideal) x0 x1 x2 x3 x4) 8) (ld (k0_pay4 (F := Ideal) x0 x1 x2 x3 x4) 9) x5 x6 x7 x10 x9

section
variable (c : Dev nD) (i : grid0.Coords) (arg1 : Memref sig .tc .vmem S1x512x1024 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S1024x256 .f32) (harg9 : arg9.IsWhole) (arg10 : Memref sig .tc .vmem S256x1024 .f32) (harg10 : arg10.IsWhole) (arg11 : Memref sig .tc .vmem S1x256 .f32) (harg11 : arg11.IsWhole) (arg12 : Memref sig .tc .vmem S128x256 .f32) (harg12 : arg12.IsWhole) (arg13 : Memref sig .tc .vmem S256x128 .f32) (harg13 : arg13.IsWhole) (arg14 : Memref sig .tc .vmem S256x768 .f32) (harg14 : arg14.IsWhole) (arg15 : Memref sig .tc .vmem S1x768 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S1x512x1 .i32) (harg18 : arg18.IsWhole) (arg19 : Memref sig .tc .vmem S1x256x1 .i32) (harg19 : arg19.IsWhole) (arg20 : Memref sig .tc .vmem S1x512x768 .f32) (harg20 : arg20.IsWhole) (arg21 : Memref sig .tc .vmem S1x512x256 .f32) (harg21 : arg21.IsWhole) (arg22 : Memref sig .tc .vmem S1x1x1 .f32) (harg22 : arg22.IsWhole) (arg23 : Memref sig .tc .vmem S1x1x1 .f32) (harg23 : arg23.IsWhole) (arg24 : Memref sig .tc .vmem S528x256 .f32) (harg24 : arg24.IsWhole)
    (x0 : Vec Ideal S1x512x1024 .f32) (x1 : Vec Ideal S1024x512 .f32) (x2 : Vec Ideal S1x512 .f32) (x3 : Vec Ideal S512x256 .f32) (x4 : Vec Ideal S1x256 .f32) (x5 : Vec Ideal S256x256 .f32) (x6 : Vec Ideal S256x256 .f32) (x7 : Vec Ideal S256x256 .f32) (x8 : Vec Ideal S1024x256 .f32) (x9 : Vec Ideal S256x1024 .f32) (x10 : Vec Ideal S1x256 .f32) (x11 : Vec Ideal S128x256 .f32) (x12 : Vec Ideal S256x128 .f32) (x13 : Vec Ideal S256x768 .f32) (x14 : Vec Ideal S1x768 .f32) (x15 : Vec Ideal S256x256 .f32) (x16 : Vec Ideal S1x256 .f32)

/-- The block of nearest codes. -/
theorem out17 : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = k0_pay13 (F := Ideal) (vn x0 x1 x2 x3 x4 x5 x6 x7 x10) (vd x0 x1 x2 x3 x4 x5 x6 x7 x10 x9) (k0_pay9 (F := Ideal) x9 x9) := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  frame_out
  simp only [readCov_pad]

/-- The block of nearest words. -/
theorem out18 : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = k0_pay21 (F := Ideal) (k0_pay18 (F := Ideal) (k0_pay15 (F := Ideal) (vn x0 x1 x2 x3 x4 x5 x6 x7 x10) (vd x0 x1 x2 x3 x4 x5 x6 x7 x10 x9) (k0_pay9 (F := Ideal) x9 x9)) x8) (k0_pay19 (F := Ideal) (k0_pay15 (F := Ideal) (vn x0 x1 x2 x3 x4 x5 x6 x7 x10) (vd x0 x1 x2 x3 x4 x5 x6 x7 x10 x9) (k0_pay9 (F := Ideal) x9 x9)) x8) x12 x12 x12 := by
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  frame_out
  simp only [readCov_pad]

/-- The block of the recurrent layer's first map. -/
theorem out19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = k0_pay17 (F := Ideal) (k0_pay16 (F := Ideal) (vn x0 x1 x2 x3 x4 x5 x6 x7 x10) (vd x0 x1 x2 x3 x4 x5 x6 x7 x10 x9) (k0_pay9 (F := Ideal) x9 x9) x8 x13) x14 := by
  unfold out0_A_19
  rw [View.read_writes_eq_canon _ _ _ (cover0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  frame_out
  simp only [readCov_pad]

/-- The convolution block. -/
theorem out20 : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = k0_pay6 (F := Ideal) (ld (k0_pay4 (F := Ideal) x0 x1 x2 x3 x4) 7) (ld (k0_pay4 (F := Ideal) x0 x1 x2 x3 x4) 8) (ld (k0_pay4 (F := Ideal) x0 x1 x2 x3 x4) 9) x5 x6 x7 x10 := by
  unfold out0_A_20
  rw [View.read_writes_eq_canon _ _ _ (cover0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  frame_out
  simp only [readCov_pad]

/-- The block's summed least distances. -/
theorem out21 : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = k0_pay14 (F := Ideal) (vn x0 x1 x2 x3 x4 x5 x6 x7 x10) (vd x0 x1 x2 x3 x4 x5 x6 x7 x10 x9) (k0_pay9 (F := Ideal) x9 x9) := by
  unfold out0_A_21
  rw [View.read_writes_eq_canon _ _ _ (cover0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  frame_out
  simp only [readCov_pad]

/-- The block's summed projection errors. -/
theorem out22 : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = k0_pay1 (F := Ideal) (k0_pay22 (F := Ideal) (k0_pay18 (F := Ideal) (k0_pay15 (F := Ideal) (vn x0 x1 x2 x3 x4 x5 x6 x7 x10) (vd x0 x1 x2 x3 x4 x5 x6 x7 x10 x9) (k0_pay9 (F := Ideal) x9 x9)) x8) (k0_pay19 (F := Ideal) (k0_pay15 (F := Ideal) (vn x0 x1 x2 x3 x4 x5 x6 x7 x10) (vd x0 x1 x2 x3 x4 x5 x6 x7 x10 x9) (k0_pay9 (F := Ideal) x9 x9)) x8) x12 x12 x12) x11 x15 x16 x11 := by
  unfold out0_A_22
  rw [View.read_writes_eq_canon _ _ _ (cover0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  frame_out
  simp only [readCov_pad]

end

end Cert.Proof.K
-- ==== Proof.KBlock.lean ====
module

public import proofs.«01_k».proof.Proof.KOut

@[expose] public section

set_option maxRecDepth 16384

/-! The blocks the first region's body leaves, as the mathematics over the arguments the input blocks hold. -/

noncomputable section

namespace Cert.Proof.K

open Idealize.ShloMosaic Idealize.ShloMosaic.TcCoe Idealize.SL.Sem
open Cert.KernelIdeal Cert.KernelIdeal.Gen
open Cert.Proof.Model (In two am dist)

section

variable (a : In) (b : Fin 16)
  (x0 : Vec Ideal S1x512x1024 .f32) (x1 : Vec Ideal S1024x512 .f32) (x2 : Vec Ideal S1x512 .f32) (x3 : Vec Ideal S512x256 .f32)
  (x4 : Vec Ideal S1x256 .f32) (x5 x6 x7 : Vec Ideal S256x256 .f32) (x8 : Vec Ideal S1024x256 .f32) (x9 : Vec Ideal S256x1024 .f32)
  (x10 : Vec Ideal S1x256 .f32) (x11 : Vec Ideal S128x256 .f32) (x12 : Vec Ideal S256x128 .f32) (x13 : Vec Ideal S256x768 .f32)
  (x14 : Vec Ideal S1x768 .f32) (x15 : Vec Ideal S256x256 .f32) (x16 : Vec Ideal S1x256 .f32)

/-- The input blocks hold the arguments: the features of one batch entry, the weights transposed, the biases as rows. -/
structure Holds : Prop where
  h0 : ∀ (t : Fin 512) (k : Fin 1024), x0 (ix3 0 t k) = a.x b t k
  h1 : ∀ (k : Fin 1024) (l : Fin 512), x1 (ix2 k l) = a.w1 l k
  h2 : ∀ l : Fin 512, x2 (ix2 0 l) = a.b1 l
  h3 : ∀ (l : Fin 512) (j : Fin 256), x3 (ix2 l j) = a.w2 j l
  h4 : ∀ j : Fin 256, x4 (ix2 0 j) = a.b2 j
  h5 : ∀ k o : Fin 256, x5 (ix2 k o) = a.cw o k 0
  h6 : ∀ k o : Fin 256, x6 (ix2 k o) = a.cw o k 1
  h7 : ∀ k o : Fin 256, x7 (ix2 k o) = a.cw o k 2
  h8 : ∀ (n : Fin 1024) (j : Fin 256), x8 (ix2 n j) = a.cb n j
  h9 : ∀ (j : Fin 256) (n : Fin 1024), x9 (ix2 j n) = a.cb n j
  h10 : ∀ o : Fin 256, x10 (ix2 0 o) = a.cz o
  h11 : ∀ (n : Fin 128) (j : Fin 256), x11 (ix2 n j) = a.wcb n j
  h12 : ∀ (j : Fin 256) (n : Fin 128), x12 (ix2 j n) = a.wcb n j
  h13 : ∀ (k : Fin 256) (g : Fin 768), x13 (ix2 k g) = a.wih g k
  h14 : ∀ g : Fin 768, x14 (ix2 0 g) = a.bih g + a.bhh g
  h15 : ∀ k j : Fin 256, x15 (ix2 k j) = a.aw j k
  h16 : ∀ j : Fin 256, x16 (ix2 0 j) = a.ab j

variable {a b x0 x1 x2 x3 x4 x5 x6 x7 x8 x9 x10 x11 x12 x13 x14 x15 x16}

/-- The second layer. -/
theorem blk4 (h : Holds a b x0 x1 x2 x3 x4 x5 x6 x7 x8 x9 x10 x11 x12 x13 x14 x15 x16) (t : Fin 512) (j : Fin 256) :
    k0_pay4 (F := Ideal) x0 x1 x2 x3 x4 (ix2 t j) = Model.h2 a b t j := by
  rw [pay4]
  simp only [h.h0, h.h1, h.h2, h.h3, h.h4]
  rfl

/-- The rows of the scratch buffer the convolution loads. -/
theorem blkLd (h : Holds a b x0 x1 x2 x3 x4 x5 x6 x7 x8 x9 x10 x11 x12 x13 x14 x15 x16) (o : ℕ) (t : Fin 512) (j : Fin 256) :
    ld (k0_pay4 (F := Ideal) x0 x1 x2 x3 x4) (7 + o) (ix2 t j) = Model.hp a b (t + o) j := by
  have hl : ld (k0_pay4 (F := Ideal) x0 x1 x2 x3 x4) (7 + o) (ix2 t j)
      = if h : 8 ≤ 7 + o + (t : ℕ) ∧ 7 + o + (t : ℕ) - 8 < 512
        then k0_pay4 (F := Ideal) x0 x1 x2 x3 x4 (ix2 ⟨7 + o + (t : ℕ) - 8, h.2⟩ j) else (0 : EReal) := rfl
  rw [hl]
  unfold Model.hp
  by_cases hc : 1 ≤ (t : ℕ) + o ∧ (t : ℕ) + o - 1 < 512
  · rw [dif_pos hc, dif_pos (by omega), blk4 h]
    congr 2
    omega
  · rw [dif_neg hc, dif_neg (by omega)]

/-- The convolution. -/
theorem blk5 (h : Holds a b x0 x1 x2 x3 x4 x5 x6 x7 x8 x9 x10 x11 x12 x13 x14 x15 x16) (t : Fin 512) (j : Fin 256) :
    k0_pay5 (F := Ideal) (ld (k0_pay4 (F := Ideal) x0 x1 x2 x3 x4) 7) (ld (k0_pay4 (F := Ideal) x0 x1 x2 x3 x4) 8) (ld (k0_pay4 (F := Ideal) x0 x1 x2 x3 x4) 9) x5 x6 x7 x10 (ix2 t j) = Model.feats a b t j := by
  rw [pay5]
  have e0 : ∀ k : Fin 256, ld (k0_pay4 (F := Ideal) x0 x1 x2 x3 x4) 7 (ix2 t k) = Model.hp a b t k := fun k => blkLd h 0 t k
  have e1 : ∀ k : Fin 256, ld (k0_pay4 (F := Ideal) x0 x1 x2 x3 x4) 8 (ix2 t k) = Model.hp a b (t + 1) k := fun k => blkLd h 1 t k
  have e2 : ∀ k : Fin 256, ld (k0_pay4 (F := Ideal) x0 x1 x2 x3 x4) 9 (ix2 t k) = Model.hp a b (t + 2) k := fun k => blkLd h 2 t k
  simp only [e0, e1, e2, h.h5, h.h6, h.h7, h.h10]
  rfl

/-- The expanded squared distances. -/
theorem blk10 (h : Holds a b x0 x1 x2 x3 x4 x5 x6 x7 x8 x9 x10 x11 x12 x13 x14 x15 x16) (t : Fin 512) (n : Fin 1024) :
    k0_pay10 (F := Ideal) (vn x0 x1 x2 x3 x4 x5 x6 x7 x10) (vd x0 x1 x2 x3 x4 x5 x6 x7 x10 x9) (k0_pay9 (F := Ideal) x9 x9) (ix2 t n) = dist (Model.feats a b t) (a.cb n) := by
  rw [pay10]; unfold vn vd; rw [pay7, pay8]
  simp only [blk5 h, pay9, h.h9]
  rfl

/-- The nearest code. -/
theorem blkAm (h : Holds a b x0 x1 x2 x3 x4 x5 x6 x7 x8 x9 x10 x11 x12 x13 x14 x15 x16) (t : Fin 512) :
    (am fun n : Fin 1024 => k0_pay10 (F := Ideal) (vn x0 x1 x2 x3 x4 x5 x6 x7 x10) (vd x0 x1 x2 x3 x4 x5 x6 x7 x10 x9) (k0_pay9 (F := Ideal) x9 x9) (ix2 t n)) = Model.idx a b t :=
  congrArg am (funext fun n => blk10 h t n)

/-- The convolution block. -/
theorem blk6 (h : Holds a b x0 x1 x2 x3 x4 x5 x6 x7 x8 x9 x10 x11 x12 x13 x14 x15 x16) (t : Fin 512) (j : Fin 256) :
    k0_pay6 (F := Ideal) (ld (k0_pay4 (F := Ideal) x0 x1 x2 x3 x4) 7) (ld (k0_pay4 (F := Ideal) x0 x1 x2 x3 x4) 8) (ld (k0_pay4 (F := Ideal) x0 x1 x2 x3 x4) 9) x5 x6 x7 x10 (ix3 0 t j) = Model.feats a b t j := by
  rw [pay6]; exact blk5 h t j

/-- The block of nearest codes. -/
theorem blk13 (h : Holds a b x0 x1 x2 x3 x4 x5 x6 x7 x8 x9 x10 x11 x12 x13 x14 x15 x16) (t : Fin 512) :
    k0_pay13 (F := Ideal) (vn x0 x1 x2 x3 x4 x5 x6 x7 x10) (vd x0 x1 x2 x3 x4 x5 x6 x7 x10 x9) (k0_pay9 (F := Ideal) x9 x9) (ix3 0 t 0) = BitVec.ofNat 32 (Model.idx a b t) := by
  rw [pay13, blkAm h]

/-- The block's summed least distances. -/
theorem blk14 (h : Holds a b x0 x1 x2 x3 x4 x5 x6 x7 x8 x9 x10 x11 x12 x13 x14 x15 x16) :
    k0_pay14 (F := Ideal) (vn x0 x1 x2 x3 x4 x5 x6 x7 x10) (vd x0 x1 x2 x3 x4 x5 x6 x7 x10 x9) (k0_pay9 (F := Ideal) x9 x9) (ix3 0 0 0)
      = ∑ t : Fin 512, dist (Model.feats a b t) (Model.q a b t) := by
  rw [pay14]
  refine Finset.sum_congr rfl fun t _ => ?_
  rw [blkAm h, blk10 h]
  rfl

/-- The first map of the recurrent layer. -/
theorem blk17 (h : Holds a b x0 x1 x2 x3 x4 x5 x6 x7 x8 x9 x10 x11 x12 x13 x14 x15 x16) (t : Fin 512) (g : Fin 768) :
    k0_pay17 (F := Ideal) (k0_pay16 (F := Ideal) (vn x0 x1 x2 x3 x4 x5 x6 x7 x10) (vd x0 x1 x2 x3 x4 x5 x6 x7 x10 x9) (k0_pay9 (F := Ideal) x9 x9) x8 x13) x14 (ix3 0 t g) = Model.gi a b t g := by
  rw [pay17, pay16, blkAm h]
  simp only [h.h8, h.h13, h.h14]
  rfl

/-- The words. -/
theorem blk18 (h : Holds a b x0 x1 x2 x3 x4 x5 x6 x7 x8 x9 x10 x11 x12 x13 x14 x15 x16) (w j : Fin 256) :
    k0_pay18 (F := Ideal) (k0_pay15 (F := Ideal) (vn x0 x1 x2 x3 x4 x5 x6 x7 x10) (vd x0 x1 x2 x3 x4 x5 x6 x7 x10 x9) (k0_pay9 (F := Ideal) x9 x9)) x8 (ix2 w j) = Model.wm a b w j := by
  rw [pay18 _ x8 (Model.idx a b) (fun t n => by rw [pay15, blkAm h])]
  simp only [h.h8]
  rfl

/-- The expanded squared distances of the words. -/
theorem blkWd (h : Holds a b x0 x1 x2 x3 x4 x5 x6 x7 x8 x9 x10 x11 x12 x13 x14 x15 x16) (u : Fin 256) :
    am (wd (k0_pay18 (F := Ideal) (k0_pay15 (F := Ideal) (vn x0 x1 x2 x3 x4 x5 x6 x7 x10) (vd x0 x1 x2 x3 x4 x5 x6 x7 x10 x9) (k0_pay9 (F := Ideal) x9 x9)) x8) (k0_pay19 (F := Ideal) (k0_pay15 (F := Ideal) (vn x0 x1 x2 x3 x4 x5 x6 x7 x10) (vd x0 x1 x2 x3 x4 x5 x6 x7 x10 x9) (k0_pay9 (F := Ideal) x9 x9)) x8) x12 x12 x12 u) = Model.widx a b u := by
  refine congrArg am (funext fun n => ?_)
  unfold wd
  simp only [pay19, blk18 h, h.h12]
  rfl

/-- The block of nearest words. -/
theorem blk21 (h : Holds a b x0 x1 x2 x3 x4 x5 x6 x7 x8 x9 x10 x11 x12 x13 x14 x15 x16) (u : Fin 256) :
    k0_pay21 (F := Ideal) (k0_pay18 (F := Ideal) (k0_pay15 (F := Ideal) (vn x0 x1 x2 x3 x4 x5 x6 x7 x10) (vd x0 x1 x2 x3 x4 x5 x6 x7 x10 x9) (k0_pay9 (F := Ideal) x9 x9)) x8) (k0_pay19 (F := Ideal) (k0_pay15 (F := Ideal) (vn x0 x1 x2 x3 x4 x5 x6 x7 x10) (vd x0 x1 x2 x3 x4 x5 x6 x7 x10 x9) (k0_pay9 (F := Ideal) x9 x9)) x8) x12 x12 x12 (ix3 0 u 0) = BitVec.ofNat 32 (Model.widx a b u) := by
  rw [pay21, blkWd h]

/-- The block's summed projection errors. -/
theorem blk1 (h : Holds a b x0 x1 x2 x3 x4 x5 x6 x7 x8 x9 x10 x11 x12 x13 x14 x15 x16) :
    k0_pay1 (F := Ideal) (k0_pay22 (F := Ideal) (k0_pay18 (F := Ideal) (k0_pay15 (F := Ideal) (vn x0 x1 x2 x3 x4 x5 x6 x7 x10) (vd x0 x1 x2 x3 x4 x5 x6 x7 x10 x9) (k0_pay9 (F := Ideal) x9 x9)) x8) (k0_pay19 (F := Ideal) (k0_pay15 (F := Ideal) (vn x0 x1 x2 x3 x4 x5 x6 x7 x10) (vd x0 x1 x2 x3 x4 x5 x6 x7 x10 x9) (k0_pay9 (F := Ideal) x9 x9)) x8) x12 x12 x12) x11 x15 x16 x11 (ix3 0 0 0)
      = ∑ u : Fin 256, Model.pe a (Model.widx a b u) := by
  rw [pay1]
  simp only [pay22, blkWd h, h.h11, h.h15, h.h16]
  exact Model.sum_counts (Model.widx a b) (Model.pe a)

end

end Cert.Proof.K
-- ==== Proof.KHost.lean ====
module

public import proofs.«01_k».proof.Proof.KBlock
public import proofs.«01_k».proof.Proof.KIRun
public import Idealize.ShloMosaic.Lib.StableHlo.ReadAt
public import Idealize.ShloMosaic.Lib.Claim

@[expose] public section

set_option maxRecDepth 16384

/-! The kernel's host operations before the launches, read at indices, and the blocks the first launch's points read. -/

noncomputable section

namespace Cert.Proof.K

open Idealize.ShloMosaic Idealize.ShloMosaic.TcCoe Idealize.SL.Sem
open Cert.KernelIdeal Cert.KernelIdeal.Gen
open Cert.Proof.Model (In)

section

variable (m : (ℓ : Loc nD τ sig) → Buf (Elt Ideal) ℓ) (ρ : Dev nD → PrngReg) (c : Dev nD)

/-- The kernel's arguments, read at plain indices. -/
def inK : In where
  x b t k := m ((c : Thread nD τ).loc main_arg0) (ix3 b t k)
  w1 l k := m ((c : Thread nD τ).loc main_arg1) (ix2 l k)
  b1 l := m ((c : Thread nD τ).loc main_arg2) (ix1 l)
  w2 j l := m ((c : Thread nD τ).loc main_arg3) (ix2 j l)
  b2 j := m ((c : Thread nD τ).loc main_arg4) (ix1 j)
  cw o k s := m ((c : Thread nD τ).loc main_arg5) (ix3 o k s)
  cz o := m ((c : Thread nD τ).loc main_arg6) (ix1 o)
  cb n j := m ((c : Thread nD τ).loc main_arg7) (ix2 n j)
  wih g k := m ((c : Thread nD τ).loc main_arg8) (ix2 g k)
  whh g k := m ((c : Thread nD τ).loc main_arg9) (ix2 g k)
  bih g := m ((c : Thread nD τ).loc main_arg10) (ix1 g)
  bhh g := m ((c : Thread nD τ).loc main_arg11) (ix1 g)
  wcb n j := m ((c : Thread nD τ).loc main_arg12) (ix2 n j)
  aw j k := m ((c : Thread nD τ).loc main_arg13) (ix2 j k)
  ab j := m ((c : Thread nD τ).loc main_arg14) (ix1 j)

/-- Operand `main_v0` of the launches, at an index. -/
theorem e0 (k : Fin 1024) (l : Fin 512) : (W1 (F := Ideal) m ρ c (Proc.devRef .tc main_v0) : _ → EReal) (ix2 k l) = (inK m c).w1 l k := by
  unfold inK
  simp only [W1]
  after_reads_at

/-- Operand `main_v1` of the launches, at an index. -/
theorem e1 (l : Fin 512) : (W1 (F := Ideal) m ρ c (Proc.devRef .tc main_v1) : _ → EReal) (ix2 0 l) = (inK m c).b1 l := by
  unfold inK
  simp only [W1]
  after_reads_at

/-- Operand `main_v2` of the launches, at an index. -/
theorem e2 (l : Fin 512) (j : Fin 256) : (W1 (F := Ideal) m ρ c (Proc.devRef .tc main_v2) : _ → EReal) (ix2 l j) = (inK m c).w2 j l := by
  unfold inK
  simp only [W1]
  after_reads_at

/-- Operand `main_v3` of the launches, at an index. -/
theorem e3 (j : Fin 256) : (W1 (F := Ideal) m ρ c (Proc.devRef .tc main_v3) : _ → EReal) (ix2 0 j) = (inK m c).b2 j := by
  unfold inK
  simp only [W1]
  after_reads_at

/-- Operand `main_v6` of the launches, at an index. -/
theorem e6 (k o : Fin 256) : (W1 (F := Ideal) m ρ c (Proc.devRef .tc main_v6) : _ → EReal) (ix2 k o) = (inK m c).cw o k 0 := by
  unfold inK
  simp only [W1]
  after_reads_at

/-- Operand `main_v9` of the launches, at an index. -/
theorem e9 (k o : Fin 256) : (W1 (F := Ideal) m ρ c (Proc.devRef .tc main_v9) : _ → EReal) (ix2 k o) = (inK m c).cw o k 1 := by
  unfold inK
  simp only [W1]
  after_reads_at

/-- Operand `main_v12` of the launches, at an index. -/
theorem e12 (k o : Fin 256) : (W1 (F := Ideal) m ρ c (Proc.devRef .tc main_v12) : _ → EReal) (ix2 k o) = (inK m c).cw o k 2 := by
  unfold inK
  simp only [W1]
  after_reads_at

/-- Operand `main_v13` of the launches, at an index. -/
theorem e13 (o : Fin 256) : (W1 (F := Ideal) m ρ c (Proc.devRef .tc main_v13) : _ → EReal) (ix2 0 o) = (inK m c).cz o := by
  unfold inK
  simp only [W1]
  after_reads_at

/-- Operand `main_v14` of the launches, at an index. -/
theorem e14 (j : Fin 256) (n : Fin 1024) : (W1 (F := Ideal) m ρ c (Proc.devRef .tc main_v14) : _ → EReal) (ix2 j n) = (inK m c).cb n j := by
  unfold inK
  simp only [W1]
  after_reads_at

/-- Operand `main_v15` of the launches, at an index. -/
theorem e15 (j : Fin 256) (n : Fin 128) : (W1 (F := Ideal) m ρ c (Proc.devRef .tc main_v15) : _ → EReal) (ix2 j n) = (inK m c).wcb n j := by
  unfold inK
  simp only [W1]
  after_reads_at

/-- Operand `main_v16` of the launches, at an index. -/
theorem e16 (k : Fin 256) (g : Fin 768) : (W1 (F := Ideal) m ρ c (Proc.devRef .tc main_v16) : _ → EReal) (ix2 k g) = (inK m c).wih g k := by
  unfold inK
  simp only [W1]
  after_reads_at

/-- Operand `main_v17` of the launches, at an index. -/
theorem e17 (k : Fin 256) (g : Fin 768) : (W1 (F := Ideal) m ρ c (Proc.devRef .tc main_v17) : _ → EReal) (ix2 k g) = (inK m c).whh g k := by
  unfold inK
  simp only [W1]
  after_reads_at

/-- Operand `main_v19` of the launches, at an index. -/
theorem e19 (g : Fin 768) : (W1 (F := Ideal) m ρ c (Proc.devRef .tc main_v19) : _ → EReal) (ix2 0 g) = (inK m c).bih g + (inK m c).bhh g := by
  unfold inK
  simp only [W1]
  after_reads_at

/-- Operand `main_v20` of the launches, at an index. -/
theorem e20 (k j : Fin 256) : (W1 (F := Ideal) m ρ c (Proc.devRef .tc main_v20) : _ → EReal) (ix2 k j) = (inK m c).aw j k := by
  unfold inK
  simp only [W1]
  after_reads_at

/-- Operand `main_v21` of the launches, at an index. -/
theorem e21 (j : Fin 256) : (W1 (F := Ideal) m ρ c (Proc.devRef .tc main_v21) : _ → EReal) (ix2 0 j) = (inK m c).ab j := by
  unfold inK
  simp only [W1]
  after_reads_at

end

end Cert.Proof.K
-- ==== Proof.KArr.lean ====
module

public import proofs.«01_k».proof.Proof.KHost
public import Idealize.ShloMosaic.Lib.Pipeline.ValueKit

@[expose] public section

set_option maxRecDepth 16384

/-! What the first launch leaves in its output arrays, as the mathematics over the arguments. -/

noncomputable section

namespace Cert.Proof.K

open Idealize.ShloMosaic Idealize.ShloMosaic.TcCoe Idealize.SL.Sem
open Cert.KernelIdeal Cert.KernelIdeal.Gen
open Cert.Proof.Model (In)
open Idealize.ShloMosaic.Pipeline (Dat Cfg Window)

section

variable (m : (ℓ : Loc nD τ sig) → Buf (Elt Ideal) ℓ) (ρ : Dev nD → PrngReg) (c : Dev nD)

/-- The index maps of the first launch: the batch entry for the features and the outputs, the whole array otherwise. -/
theorem idx : ∀ t : Fin cfg0.N, win0_0.index t = ![t.val, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![t.val, 0, 0] ∧ win0_18.index t = ![t.val, 0, 0] ∧ win0_19.index t = ![t.val, 0, 0] ∧ win0_20.index t = ![t.val, 0, 0] ∧ win0_21.index t = ![t.val, 0, 0] ∧ win0_22.index t = ![t.val, 0, 0] :=
  (by decide +kernel : ∀ t : Fin grid0.N, _)

/-- The batch entry of a grid point. -/
def bt (t : Fin cfg0.N) : Fin 16 := ⟨t.val, lt_of_lt_of_eq t.isLt N_0⟩

/-- Input block 0, at an index. -/
theorem ib0 (t : Fin cfg0.N) (u : Fin 512) (k : Fin 1024) : iblk0 (V1 (F := Ideal) m ρ) c 0 t (ix3 0 u k) = (inK m c).x (bt t) u k := by
  have e : iblk0 (V1 (F := Ideal) m ρ) c 0 t (ix3 0 u k) = (W1 (F := Ideal) m ρ c (Proc.devRef .tc main_arg0) : _ → EReal) (ix3 (bt t) u k) := by
    blk_ext [iblk0, idx t, bt]
  exact e.trans (congrFun (W1_args m ρ c main_arg0 (by decide)) _)

/-- Input block 1, at an index. -/
theorem ib1 (t : Fin cfg0.N) (k : Fin 1024) (l : Fin 512) : iblk0 (V1 (F := Ideal) m ρ) c 1 t (ix2 k l) = (inK m c).w1 l k := by
  have e : iblk0 (V1 (F := Ideal) m ρ) c 1 t (ix2 k l) = (W1 (F := Ideal) m ρ c (Proc.devRef .tc main_v0) : _ → EReal) (ix2 k l) := by
    blk_ext [iblk0, idx t]
  exact e.trans (e0 m ρ c k l)

/-- Input block 2, at an index. -/
theorem ib2 (t : Fin cfg0.N) (l : Fin 512) : iblk0 (V1 (F := Ideal) m ρ) c 2 t (ix2 0 l) = (inK m c).b1 l := by
  have e : iblk0 (V1 (F := Ideal) m ρ) c 2 t (ix2 0 l) = (W1 (F := Ideal) m ρ c (Proc.devRef .tc main_v1) : _ → EReal) (ix2 0 l) := by
    blk_ext [iblk0, idx t]
  exact e.trans (e1 m ρ c l)

/-- Input block 3, at an index. -/
theorem ib3 (t : Fin cfg0.N) (l : Fin 512) (j : Fin 256) : iblk0 (V1 (F := Ideal) m ρ) c 3 t (ix2 l j) = (inK m c).w2 j l := by
  have e : iblk0 (V1 (F := Ideal) m ρ) c 3 t (ix2 l j) = (W1 (F := Ideal) m ρ c (Proc.devRef .tc main_v2) : _ → EReal) (ix2 l j) := by
    blk_ext [iblk0, idx t]
  exact e.trans (e2 m ρ c l j)

/-- Input block 4, at an index. -/
theorem ib4 (t : Fin cfg0.N) (j : Fin 256) : iblk0 (V1 (F := Ideal) m ρ) c 4 t (ix2 0 j) = (inK m c).b2 j := by
  have e : iblk0 (V1 (F := Ideal) m ρ) c 4 t (ix2 0 j) = (W1 (F := Ideal) m ρ c (Proc.devRef .tc main_v3) : _ → EReal) (ix2 0 j) := by
    blk_ext [iblk0, idx t]
  exact e.trans (e3 m ρ c j)

/-- Input block 5, at an index. -/
theorem ib5 (t : Fin cfg0.N) (k o : Fin 256) : iblk0 (V1 (F := Ideal) m ρ) c 5 t (ix2 k o) = (inK m c).cw o k 0 := by
  have e : iblk0 (V1 (F := Ideal) m ρ) c 5 t (ix2 k o) = (W1 (F := Ideal) m ρ c (Proc.devRef .tc main_v6) : _ → EReal) (ix2 k o) := by
    blk_ext [iblk0, idx t]
  exact e.trans (e6 m ρ c k o)

/-- Input block 6, at an index. -/
theorem ib6 (t : Fin cfg0.N) (k o : Fin 256) : iblk0 (V1 (F := Ideal) m ρ) c 6 t (ix2 k o) = (inK m c).cw o k 1 := by
  have e : iblk0 (V1 (F := Ideal) m ρ) c 6 t (ix2 k o) = (W1 (F := Ideal) m ρ c (Proc.devRef .tc main_v9) : _ → EReal) (ix2 k o) := by
    blk_ext [iblk0, idx t]
  exact e.trans (e9 m ρ c k o)

/-- Input block 7, at an index. -/
theorem ib7 (t : Fin cfg0.N) (k o : Fin 256) : iblk0 (V1 (F := Ideal) m ρ) c 7 t (ix2 k o) = (inK m c).cw o k 2 := by
  have e : iblk0 (V1 (F := Ideal) m ρ) c 7 t (ix2 k o) = (W1 (F := Ideal) m ρ c (Proc.devRef .tc main_v12) : _ → EReal) (ix2 k o) := by
    blk_ext [iblk0, idx t]
  exact e.trans (e12 m ρ c k o)

/-- Input block 8, at an index. -/
theorem ib8 (t : Fin cfg0.N) (n : Fin 1024) (j : Fin 256) : iblk0 (V1 (F := Ideal) m ρ) c 8 t (ix2 n j) = (inK m c).cb n j := by
  have e : iblk0 (V1 (F := Ideal) m ρ) c 8 t (ix2 n j) = (W1 (F := Ideal) m ρ c (Proc.devRef .tc main_arg7) : _ → EReal) (ix2 n j) := by
    blk_ext [iblk0, idx t]
  exact e.trans (congrFun (W1_args m ρ c main_arg7 (by decide)) _)

/-- Input block 9, at an index. -/
theorem ib9 (t : Fin cfg0.N) (j : Fin 256) (n : Fin 1024) : iblk0 (V1 (F := Ideal) m ρ) c 9 t (ix2 j n) = (inK m c).cb n j := by
  have e : iblk0 (V1 (F := Ideal) m ρ) c 9 t (ix2 j n) = (W1 (F := Ideal) m ρ c (Proc.devRef .tc main_v14) : _ → EReal) (ix2 j n) := by
    blk_ext [iblk0, idx t]
  exact e.trans (e14 m ρ c j n)

/-- Input block 10, at an index. -/
theorem ib10 (t : Fin cfg0.N) (o : Fin 256) : iblk0 (V1 (F := Ideal) m ρ) c 10 t (ix2 0 o) = (inK m c).cz o := by
  have e : iblk0 (V1 (F := Ideal) m ρ) c 10 t (ix2 0 o) = (W1 (F := Ideal) m ρ c (Proc.devRef .tc main_v13) : _ → EReal) (ix2 0 o) := by
    blk_ext [iblk0, idx t]
  exact e.trans (e13 m ρ c o)

/-- Input block 11, at an index. -/
theorem ib11 (t : Fin cfg0.N) (n : Fin 128) (j : Fin 256) : iblk0 (V1 (F := Ideal) m ρ) c 11 t (ix2 n j) = (inK m c).wcb n j := by
  have e : iblk0 (V1 (F := Ideal) m ρ) c 11 t (ix2 n j) = (W1 (F := Ideal) m ρ c (Proc.devRef .tc main_arg12) : _ → EReal) (ix2 n j) := by
    blk_ext [iblk0, idx t]
  exact e.trans (congrFun (W1_args m ρ c main_arg12 (by decide)) _)

/-- Input block 12, at an index. -/
theorem ib12 (t : Fin cfg0.N) (j : Fin 256) (n : Fin 128) : iblk0 (V1 (F := Ideal) m ρ) c 12 t (ix2 j n) = (inK m c).wcb n j := by
  have e : iblk0 (V1 (F := Ideal) m ρ) c 12 t (ix2 j n) = (W1 (F := Ideal) m ρ c (Proc.devRef .tc main_v15) : _ → EReal) (ix2 j n) := by
    blk_ext [iblk0, idx t]
  exact e.trans (e15 m ρ c j n)

/-- Input block 13, at an index. -/
theorem ib13 (t : Fin cfg0.N) (k : Fin 256) (g : Fin 768) : iblk0 (V1 (F := Ideal) m ρ) c 13 t (ix2 k g) = (inK m c).wih g k := by
  have e : iblk0 (V1 (F := Ideal) m ρ) c 13 t (ix2 k g) = (W1 (F := Ideal) m ρ c (Proc.devRef .tc main_v16) : _ → EReal) (ix2 k g) := by
    blk_ext [iblk0, idx t]
  exact e.trans (e16 m ρ c k g)

/-- Input block 14, at an index. -/
theorem ib14 (t : Fin cfg0.N) (g : Fin 768) : iblk0 (V1 (F := Ideal) m ρ) c 14 t (ix2 0 g) = (inK m c).bih g + (inK m c).bhh g := by
  have e : iblk0 (V1 (F := Ideal) m ρ) c 14 t (ix2 0 g) = (W1 (F := Ideal) m ρ c (Proc.devRef .tc main_v19) : _ → EReal) (ix2 0 g) := by
    blk_ext [iblk0, idx t]
  exact e.trans (e19 m ρ c g)

/-- Input block 15, at an index. -/
theorem ib15 (t : Fin cfg0.N) (k j : Fin 256) : iblk0 (V1 (F := Ideal) m ρ) c 15 t (ix2 k j) = (inK m c).aw j k := by
  have e : iblk0 (V1 (F := Ideal) m ρ) c 15 t (ix2 k j) = (W1 (F := Ideal) m ρ c (Proc.devRef .tc main_v20) : _ → EReal) (ix2 k j) := by
    blk_ext [iblk0, idx t]
  exact e.trans (e20 m ρ c k j)

/-- Input block 16, at an index. -/
theorem ib16 (t : Fin cfg0.N) (j : Fin 256) : iblk0 (V1 (F := Ideal) m ρ) c 16 t (ix2 0 j) = (inK m c).ab j := by
  have e : iblk0 (V1 (F := Ideal) m ρ) c 16 t (ix2 0 j) = (W1 (F := Ideal) m ρ c (Proc.devRef .tc main_v21) : _ → EReal) (ix2 0 j) := by
    blk_ext [iblk0, idx t]
  exact e.trans (e21 m ρ c j)

/-- The input blocks of a point hold the arguments. -/
theorem holds (t : Fin cfg0.N) : Holds (inK m c) (bt t) (iblk0 (V1 (F := Ideal) m ρ) c 0 t) (iblk0 (V1 (F := Ideal) m ρ) c 1 t) (iblk0 (V1 (F := Ideal) m ρ) c 2 t) (iblk0 (V1 (F := Ideal) m ρ) c 3 t) (iblk0 (V1 (F := Ideal) m ρ) c 4 t) (iblk0 (V1 (F := Ideal) m ρ) c 5 t) (iblk0 (V1 (F := Ideal) m ρ) c 6 t) (iblk0 (V1 (F := Ideal) m ρ) c 7 t) (iblk0 (V1 (F := Ideal) m ρ) c 8 t) (iblk0 (V1 (F := Ideal) m ρ) c 9 t) (iblk0 (V1 (F := Ideal) m ρ) c 10 t) (iblk0 (V1 (F := Ideal) m ρ) c 11 t) (iblk0 (V1 (F := Ideal) m ρ) c 12 t) (iblk0 (V1 (F := Ideal) m ρ) c 13 t) (iblk0 (V1 (F := Ideal) m ρ) c 14 t) (iblk0 (V1 (F := Ideal) m ρ) c 15 t) (iblk0 (V1 (F := Ideal) m ρ) c 16 t) :=
  ⟨ib0 m ρ c t, ib1 m ρ c t, ib2 m ρ c t, ib3 m ρ c t, ib4 m ρ c t, ib5 m ρ c t, ib6 m ρ c t, ib7 m ρ c t, ib8 m ρ c t, ib9 m ρ c t, ib10 m ρ c t, ib11 m ρ c t, ib12 m ρ c t, ib13 m ρ c t, ib14 m ρ c t, ib15 m ρ c t, ib16 m ρ c t⟩

/-- Emb of output block 17: the batch entry is the point's. -/
theorem emb17 (t : Fin cfg0.N) (y : ((cfg0.win 17).xblock (cfg0.grid.coords t)).Idx) :
    ((((cfg0.win 17).blk t).view.emb y) 0 : ℕ) = t.val ∧ ((((cfg0.win 17).blk t).view.emb y) 1 : ℕ) = (y 1 : ℕ) ∧ ((((cfg0.win 17).blk t).view.emb y) 2 : ℕ) = (y 2 : ℕ) := by
  have hy : (y 0 : ℕ) < 1 := (y 0).isLt
  refine ⟨?_, ?_, ?_⟩ <;> blk_simp [idx t] <;> omega

/-- The array of token indices after the first launch. -/
theorem arr17 : (W2 (F := Ideal) m ρ c (Proc.devRef .tc main_v22_0) : _ → BitVec 32) = fun i => BitVec.ofNat 32 (Model.idx (inK m c) (i 0) (i 1)) := by
  refine (W2_arr m ρ c 17).trans ((dat0 (V1 m ρ) c).arrAt_eq_of_covers 17 (fun i => BitVec.ofNat 32 (Model.idx (inK m c) (i 0) (i 1)) : S16x512x1.Idx → BitVec 32) (by decide +kernel) fun t hf y => ?_)
  obtain ⟨h0, h1, h2⟩ := emb17 t y
  blk_simp
  rw [after0_17]
  unfold outsAt0
  dsimp only
  rw [out17]
  have hy : (y 0 : ℕ) < 1 := (y 0).isLt
  have ey : y = (ix3 0 (y 1) 0 : S1x512x1.Idx) := by
    funext d
    fin_cases d
    · exact Fin.ext (Nat.lt_one_iff.1 hy)
    · rfl
    · exact Fin.ext (Nat.lt_one_iff.1 (show (y 2 : ℕ) < 1 from (y 2).isLt))
  have key := blk13 (holds m ρ c t) (y 1)
  rw [← ey] at key
  refine key.trans ?_
  have e0 : (((cfg0.win 17).blk t).view.emb y) 0 = bt t := Fin.ext h0
  have e1 : (((cfg0.win 17).blk t).view.emb y) 1 = y 1 := Fin.ext h1
  have e2 : (((cfg0.win 17).blk t).view.emb y) 2 = y 2 := Fin.ext h2
  exact congrArg₂ (fun b t => BitVec.ofNat 32 (Model.idx (inK m c) b t)) e0.symm e1.symm

/-- Emb of output block 18: the batch entry is the point's. -/
theorem emb18 (t : Fin cfg0.N) (y : ((cfg0.win 18).xblock (cfg0.grid.coords t)).Idx) :
    ((((cfg0.win 18).blk t).view.emb y) 0 : ℕ) = t.val ∧ ((((cfg0.win 18).blk t).view.emb y) 1 : ℕ) = (y 1 : ℕ) ∧ ((((cfg0.win 18).blk t).view.emb y) 2 : ℕ) = (y 2 : ℕ) := by
  have hy : (y 0 : ℕ) < 1 := (y 0).isLt
  refine ⟨?_, ?_, ?_⟩ <;> blk_simp [idx t] <;> omega

/-- The array of word indices after the first launch. -/
theorem arr18 : (W2 (F := Ideal) m ρ c (Proc.devRef .tc main_v22_1) : _ → BitVec 32) = fun i => BitVec.ofNat 32 (Model.widx (inK m c) (i 0) (i 1)) := by
  refine (W2_arr m ρ c 18).trans ((dat0 (V1 m ρ) c).arrAt_eq_of_covers 18 (fun i => BitVec.ofNat 32 (Model.widx (inK m c) (i 0) (i 1)) : S16x256x1.Idx → BitVec 32) (by decide +kernel) fun t hf y => ?_)
  obtain ⟨h0, h1, h2⟩ := emb18 t y
  blk_simp
  rw [after0_18]
  unfold outsAt0
  dsimp only
  rw [out18]
  have hy : (y 0 : ℕ) < 1 := (y 0).isLt
  have ey : y = (ix3 0 (y 1) 0 : S1x256x1.Idx) := by
    funext d
    fin_cases d
    · exact Fin.ext (Nat.lt_one_iff.1 hy)
    · rfl
    · exact Fin.ext (Nat.lt_one_iff.1 (show (y 2 : ℕ) < 1 from (y 2).isLt))
  have key := blk21 (holds m ρ c t) (y 1)
  rw [← ey] at key
  refine key.trans ?_
  have e0 : (((cfg0.win 18).blk t).view.emb y) 0 = bt t := Fin.ext h0
  have e1 : (((cfg0.win 18).blk t).view.emb y) 1 = y 1 := Fin.ext h1
  have e2 : (((cfg0.win 18).blk t).view.emb y) 2 = y 2 := Fin.ext h2
  exact congrArg₂ (fun b t => BitVec.ofNat 32 (Model.widx (inK m c) b t)) e0.symm e1.symm

/-- Emb of output block 19: the batch entry is the point's. -/
theorem emb19 (t : Fin cfg0.N) (y : ((cfg0.win 19).xblock (cfg0.grid.coords t)).Idx) :
    ((((cfg0.win 19).blk t).view.emb y) 0 : ℕ) = t.val ∧ ((((cfg0.win 19).blk t).view.emb y) 1 : ℕ) = (y 1 : ℕ) ∧ ((((cfg0.win 19).blk t).view.emb y) 2 : ℕ) = (y 2 : ℕ) := by
  have hy : (y 0 : ℕ) < 1 := (y 0).isLt
  refine ⟨?_, ?_, ?_⟩ <;> blk_simp [idx t] <;> omega

/-- The array of recurrent layer's first maps after the first launch. -/
theorem arr19 : (W2 (F := Ideal) m ρ c (Proc.devRef .tc main_v22_2) : _ → EReal) = fun i => Model.gi (inK m c) (i 0) (i 1) (i 2) := by
  refine (W2_arr m ρ c 19).trans ((dat0 (V1 m ρ) c).arrAt_eq_of_covers 19 (fun i => Model.gi (inK m c) (i 0) (i 1) (i 2) : S16x512x768.Idx → EReal) (by decide +kernel) fun t hf y => ?_)
  obtain ⟨h0, h1, h2⟩ := emb19 t y
  blk_simp
  rw [after0_19]
  unfold outsAt0
  dsimp only
  rw [out19]
  have hy : (y 0 : ℕ) < 1 := (y 0).isLt
  have ey : y = (ix3 0 (y 1) (y 2) : S1x512x768.Idx) := by
    funext d
    fin_cases d
    · exact Fin.ext (Nat.lt_one_iff.1 hy)
    · rfl
    · rfl
  have key := blk17 (holds m ρ c t) (y 1) (y 2)
  rw [← ey] at key
  refine key.trans ?_
  have e0 : (((cfg0.win 19).blk t).view.emb y) 0 = bt t := Fin.ext h0
  have e1 : (((cfg0.win 19).blk t).view.emb y) 1 = y 1 := Fin.ext h1
  have e2 : (((cfg0.win 19).blk t).view.emb y) 2 = y 2 := Fin.ext h2
  exact (congrArg₂ (fun b t => Model.gi (inK m c) b t (y 2)) e0.symm e1.symm).trans (congrArg (Model.gi (inK m c) _ _) e2.symm)

/-- Emb of output block 20: the batch entry is the point's. -/
theorem emb20 (t : Fin cfg0.N) (y : ((cfg0.win 20).xblock (cfg0.grid.coords t)).Idx) :
    ((((cfg0.win 20).blk t).view.emb y) 0 : ℕ) = t.val ∧ ((((cfg0.win 20).blk t).view.emb y) 1 : ℕ) = (y 1 : ℕ) ∧ ((((cfg0.win 20).blk t).view.emb y) 2 : ℕ) = (y 2 : ℕ) := by
  have hy : (y 0 : ℕ) < 1 := (y 0).isLt
  refine ⟨?_, ?_, ?_⟩ <;> blk_simp [idx t] <;> omega

/-- The array of convolution after the first launch. -/
theorem arr20 : (W2 (F := Ideal) m ρ c (Proc.devRef .tc main_v22_3) : _ → EReal) = fun i => Model.feats (inK m c) (i 0) (i 1) (i 2) := by
  refine (W2_arr m ρ c 20).trans ((dat0 (V1 m ρ) c).arrAt_eq_of_covers 20 (fun i => Model.feats (inK m c) (i 0) (i 1) (i 2) : S16x512x256.Idx → EReal) (by decide +kernel) fun t hf y => ?_)
  obtain ⟨h0, h1, h2⟩ := emb20 t y
  blk_simp
  rw [after0_20]
  unfold outsAt0
  dsimp only
  rw [out20]
  have hy : (y 0 : ℕ) < 1 := (y 0).isLt
  have ey : y = (ix3 0 (y 1) (y 2) : S1x512x256.Idx) := by
    funext d
    fin_cases d
    · exact Fin.ext (Nat.lt_one_iff.1 hy)
    · rfl
    · rfl
  have key := blk6 (holds m ρ c t) (y 1) (y 2)
  rw [← ey] at key
  refine key.trans ?_
  have e0 : (((cfg0.win 20).blk t).view.emb y) 0 = bt t := Fin.ext h0
  have e1 : (((cfg0.win 20).blk t).view.emb y) 1 = y 1 := Fin.ext h1
  have e2 : (((cfg0.win 20).blk t).view.emb y) 2 = y 2 := Fin.ext h2
  exact (congrArg₂ (fun b t => Model.feats (inK m c) b t (y 2)) e0.symm e1.symm).trans (congrArg (Model.feats (inK m c) _ _) e2.symm)

/-- Emb of output block 21: the batch entry is the point's. -/
theorem emb21 (t : Fin cfg0.N) (y : ((cfg0.win 21).xblock (cfg0.grid.coords t)).Idx) :
    ((((cfg0.win 21).blk t).view.emb y) 0 : ℕ) = t.val ∧ ((((cfg0.win 21).blk t).view.emb y) 1 : ℕ) = (y 1 : ℕ) ∧ ((((cfg0.win 21).blk t).view.emb y) 2 : ℕ) = (y 2 : ℕ) := by
  have hy : (y 0 : ℕ) < 1 := (y 0).isLt
  refine ⟨?_, ?_, ?_⟩ <;> blk_simp [idx t] <;> omega

/-- The array of summed least distances after the first launch. -/
theorem arr21 : (W2 (F := Ideal) m ρ c (Proc.devRef .tc main_v22_4) : _ → EReal) = fun i => ∑ t : Fin 512, Model.dist (Model.feats (inK m c) (i 0) t) (Model.q (inK m c) (i 0) t) := by
  refine (W2_arr m ρ c 21).trans ((dat0 (V1 m ρ) c).arrAt_eq_of_covers 21 (fun i => ∑ t : Fin 512, Model.dist (Model.feats (inK m c) (i 0) t) (Model.q (inK m c) (i 0) t) : S16x1x1.Idx → EReal) (by decide +kernel) fun t hf y => ?_)
  obtain ⟨h0, h1, h2⟩ := emb21 t y
  blk_simp
  rw [after0_21]
  unfold outsAt0
  dsimp only
  rw [out21]
  have hy : (y 0 : ℕ) < 1 := (y 0).isLt
  have ey : y = (ix3 0 0 0 : S1x1x1.Idx) := by
    funext d
    fin_cases d
    · exact Fin.ext (Nat.lt_one_iff.1 hy)
    · exact Fin.ext (Nat.lt_one_iff.1 (show (y 1 : ℕ) < 1 from (y 1).isLt))
    · exact Fin.ext (Nat.lt_one_iff.1 (show (y 2 : ℕ) < 1 from (y 2).isLt))
  have key := blk14 (holds m ρ c t)
  rw [← ey] at key
  refine key.trans ?_
  have e0 : (((cfg0.win 21).blk t).view.emb y) 0 = bt t := Fin.ext h0
  have e1 : (((cfg0.win 21).blk t).view.emb y) 1 = y 1 := Fin.ext h1
  have e2 : (((cfg0.win 21).blk t).view.emb y) 2 = y 2 := Fin.ext h2
  exact congrArg (fun b => ∑ t : Fin 512, Model.dist (Model.feats (inK m c) b t) (Model.q (inK m c) b t)) e0.symm

/-- Emb of output block 22: the batch entry is the point's. -/
theorem emb22 (t : Fin cfg0.N) (y : ((cfg0.win 22).xblock (cfg0.grid.coords t)).Idx) :
    ((((cfg0.win 22).blk t).view.emb y) 0 : ℕ) = t.val ∧ ((((cfg0.win 22).blk t).view.emb y) 1 : ℕ) = (y 1 : ℕ) ∧ ((((cfg0.win 22).blk t).view.emb y) 2 : ℕ) = (y 2 : ℕ) := by
  have hy : (y 0 : ℕ) < 1 := (y 0).isLt
  refine ⟨?_, ?_, ?_⟩ <;> blk_simp [idx t] <;> omega

/-- The array of summed projection errors after the first launch. -/
theorem arr22 : (W2 (F := Ideal) m ρ c (Proc.devRef .tc main_v22_5) : _ → EReal) = fun i => ∑ u : Fin 256, Model.pe (inK m c) (Model.widx (inK m c) (i 0) u) := by
  refine (W2_arr m ρ c 22).trans ((dat0 (V1 m ρ) c).arrAt_eq_of_covers 22 (fun i => ∑ u : Fin 256, Model.pe (inK m c) (Model.widx (inK m c) (i 0) u) : S16x1x1.Idx → EReal) (by decide +kernel) fun t hf y => ?_)
  obtain ⟨h0, h1, h2⟩ := emb22 t y
  blk_simp
  rw [after0_22]
  unfold outsAt0
  dsimp only
  rw [out22]
  have hy : (y 0 : ℕ) < 1 := (y 0).isLt
  have ey : y = (ix3 0 0 0 : S1x1x1.Idx) := by
    funext d
    fin_cases d
    · exact Fin.ext (Nat.lt_one_iff.1 hy)
    · exact Fin.ext (Nat.lt_one_iff.1 (show (y 1 : ℕ) < 1 from (y 1).isLt))
    · exact Fin.ext (Nat.lt_one_iff.1 (show (y 2 : ℕ) < 1 from (y 2).isLt))
  have key := blk1 (holds m ρ c t)
  rw [← ey] at key
  refine key.trans ?_
  have e0 : (((cfg0.win 22).blk t).view.emb y) 0 = bt t := Fin.ext h0
  have e1 : (((cfg0.win 22).blk t).view.emb y) 1 = y 1 := Fin.ext h1
  have e2 : (((cfg0.win 22).blk t).view.emb y) 2 = y 2 := Fin.ext h2
  exact congrArg (fun b => ∑ u : Fin 256, Model.pe (inK m c) (Model.widx (inK m c) b u)) e0.symm

end

end Cert.Proof.K
-- ==== Proof.KLoop.lean ====
module

public import proofs.«01_k».proof.Proof.KArr

@[expose] public section

set_option maxRecDepth 16384

/-! The second launch: the recurrent layer over the rows, and the summed squared prediction error it leaves. -/

noncomputable section

namespace Cert.Proof.K

open Idealize.ShloMosaic Idealize.ShloMosaic.TcCoe Idealize.SL.Sem
open Cert.KernelIdeal Cert.KernelIdeal.Gen
open Cert.Proof.Model (In)
open Idealize.ShloMosaic.Pipeline (Dat Cfg Window)

/-- The first hidden state. -/
theorem kp1 (b : Fin 16) (j : Fin 256) : k1_pay1 (F := Ideal) (ix2 b j) = 0 := by pointwise [k1_pay1]

/-- The first sum. -/
theorem kp2 (b : Fin 16) (j : Fin 256) : k1_pay2 (F := Ideal) (ix2 b j) = 0 := by pointwise [k1_pay2]

/-- The condition of a trip: it is not the first. -/
theorem later : ∀ k : Fin 511, Scalar.cmpi .sgt (Scf.iv 0#32 1#32 k.val) 0#32 = if 0 < k.val then 1#1 else 0#1 := by
  decide +kernel

/-- The running sum after a trip. -/
theorem kp3 (k : Fin k1_t1_loop.trips) (h acc : FVec Ideal S16x256 .f32) (f : Vec Ideal S1x16x256 .f32) (b : Fin 16) (j : Fin 256) :
    k1_pay3 (F := Ideal) k h acc f (ix2 b j)
      = acc (ix2 b j) + if 0 < k.val then (h (ix2 b j) - f (ix3 0 b j)) * (h (ix2 b j) - f (ix3 0 b j)) else 0 := by
  have hk : k.val < 511 := Nat.lt_of_lt_of_le k.isLt k1_t1_abs.2.1
  pointwise [k1_pay3]
  rw [later ⟨k.val, hk⟩]
  by_cases h0 : 0 < k.val
  · rw [if_pos h0, if_pos h0]; rfl
  · rw [if_neg h0, if_neg h0]; rfl

/-- The hidden state after a trip. -/
theorem kp4 (h : FVec Ideal S16x256 .f32) (g : Vec Ideal S1x16x768 .f32) (w : Vec Ideal S256x768 .f32) (b : Fin 16) (j : Fin 256) :
    k1_pay4 (F := Ideal) h g w (ix2 b j)
      = Model.cell (fun i => g (ix3 0 b i)) (fun i => ∑ k : Fin 256, h (ix2 b k) * w (ix2 k i)) (fun i => h (ix2 b i)) j := by
  unfold Model.cell
  pointwise [k1_pay4]

/-- The summed squared error the launch stores. -/
theorem kp5 (h acc : FVec Ideal S16x256 .f32) (f : Vec Ideal S1x16x256 .f32) :
    k1_pay5 (F := Ideal) h acc f (ix2 0 0)
      = ∑ b : Fin 16, ∑ j : Fin 256, (acc (ix2 b j) + (h (ix2 b j) - f (ix3 0 b j)) * (h (ix2 b j) - f (ix3 0 b j))) := by
  have e : ∀ y : FVec Ideal S1 .f32,
      broadcast S1x1 (extractAt ![0, 0, 0] (shapeCast S1x1x1 y shapeCasts_S1_S1x1x1) inpos_S1x1x1_p0_0_0) (ix2 0 0)
        = y (ix1 0) := by
    intro y; pointwise
  refine (e _).trans ((Ideal.multiReduction_add_total _ _ _ (fun b => by fin_cases b; rfl) _ _ _).trans ?_)
  rw [sum_idx3]
  simp only [Fin.sum_univ_one, Fin.isValue]
  refine Finset.sum_congr rfl fun t _ => Finset.sum_congr rfl fun j _ => ?_
  pointwise

section

variable (c : Dev nD) (arg0 : Memref sig .tc .vmem S512x16x768 .f32) (harg0 : arg0.IsWhole) (arg1 : Memref sig .tc .vmem S512x16x256 .f32) (harg1 : arg1.IsWhole) (arg2 : Memref sig .tc .vmem S256x768 .f32) (harg2 : arg2.IsWhole) (arg3 : Memref sig .tc .vmem S1x1 .f32) (harg3 : arg3.IsWhole)
    (x0 : Vec Ideal S512x16x768 .f32) (x1 : Vec Ideal S512x16x256 .f32) (x2 : Vec Ideal S256x768 .f32)

/-- The rows a trip loads. -/
theorem off1 : ∀ k : Fin k1_t1_loop.trips, k1_off1 k = ![k.val, 0, 0] := by decide +kernel

/-- The rows a trip loads. -/
theorem off2 : ∀ k : Fin k1_t1_loop.trips, k1_off2 k = ![k.val, 0, 0] := by decide +kernel

/-- What the launch's input blocks hold. -/
structure Holds1 (a : In) : Prop where
  h0 : ∀ (t : Fin 512) (b : Fin 16) (g : Fin 768), x0 (ix3 t b g) = Model.gi a b t g
  h1 : ∀ (t : Fin 512) (b : Fin 16) (j : Fin 256), x1 (ix3 t b j) = Model.feats a b t j
  h2 : ∀ (k : Fin 256) (g : Fin 768), x2 (ix2 k g) = a.whh g k

/-- The square a trip adds to the running sum; nothing at the first. -/
def sq (a : In) (b : Fin 16) (j : Fin 256) (s : ℕ) : EReal :=
  if 0 < s then (Model.hid a b s j - Model.feats a b (Model.row s) j) * (Model.hid a b s j - Model.feats a b (Model.row s) j) else 0

variable {x0 x1 x2} {a : In}

/-- The loop's state before a trip: the hidden state, and the squares so far. -/
theorem state (h : Holds1 x0 x1 x2 a) (k : ℕ) (hk : k ≤ 511) (b : Fin 16) (j : Fin 256) :
    (st_k1_t1 (F := Ideal) Variants.none c none arg0 harg0 arg1 harg1 arg2 harg2 arg3 harg3 (harg0.unread x0) (harg1.unread x1) (harg2.unread x2) (k1_pay1, k1_pay2) k).1 (ix2 b j) = Model.hid a b k j
    ∧ (st_k1_t1 (F := Ideal) Variants.none c none arg0 harg0 arg1 harg1 arg2 harg2 arg3 harg3 (harg0.unread x0) (harg1.unread x1) (harg2.unread x2) (k1_pay1, k1_pay2) k).2 (ix2 b j) = ∑ s ∈ Finset.range k, sq a b j s := by
  induction k generalizing b j with
  | zero => exact ⟨kp1 b j, kp2 b j⟩
  | succ k ih =>
    have ih' := fun b j => ih (by omega) b j
    have ht : k < k1_t1_loop.trips := lt_of_lt_of_eq (show k < 511 by omega) (by decide)
    have er : ∀ (b : Fin 16) (j : Fin 256), (View.ld x1 (Rect.unit (s := S512x16x256) (k1_off1 ⟨k, ht⟩) S1x16x256.size (k1_off1_inb ⟨k, ht⟩)) : S1x16x256.Idx → EReal) (ix3 0 b j)
        = Model.feats a b (Model.row k) j := by
      intro b j
      refine (View.ld_unit_apply_of (S := S512x16x256) x1 _ _ _ _ (ix3 (Model.row k) b j) ?_).trans (h.h1 _ _ _)
      intro d
      refine Eq.trans ?_ (congrArg (fun n : ℕ => n + _) (congrFun (off1 ⟨k, ht⟩) d).symm)
      fin_cases d
      · show k % 512 = k + 0; omega
      · show (b : ℕ) = 0 + b; omega
      · show (j : ℕ) = 0 + j; omega
    have eg : ∀ (b : Fin 16) (j : Fin 768), (View.ld x0 (Rect.unit (s := S512x16x768) (k1_off2 ⟨k, ht⟩) S1x16x768.size (k1_off2_inb ⟨k, ht⟩)) : S1x16x768.Idx → EReal) (ix3 0 b j)
        = Model.gi a b (Model.row k) j := by
      intro b j
      refine (View.ld_unit_apply_of (S := S512x16x768) x0 _ _ _ _ (ix3 (Model.row k) b j) ?_).trans (h.h0 _ _ _)
      intro d
      refine Eq.trans ?_ (congrArg (fun n : ℕ => n + _) (congrFun (off2 ⟨k, ht⟩) d).symm)
      fin_cases d
      · show k % 512 = k + 0; omega
      · show (b : ℕ) = 0 + b; omega
      · show (j : ℕ) = 0 + j; omega
    have ew : ∀ (l : Fin 256) (j : Fin 768), (View.ld x2 (Rect.unit (s := S256x768) ![0, 0] S256x768.size inb_S256x768_S256x768_0_0) : S256x768.Idx → EReal) (ix2 l j)
        = a.whh j l := by
      intro l j
      refine (View.ld_unit_apply_of (S := S256x768) x2 _ _ _ _ (ix2 l j) ?_).trans (h.h2 _ _)
      intro d
      fin_cases d
      · show (l : ℕ) = 0 + l; omega
      · show (j : ℕ) = 0 + j; omega
    rw [st_k1_t1_succ Variants.none c none arg0 harg0 arg1 harg1 arg2 harg2 arg3 harg3 _ _ _ _ ⟨k, ht⟩]
    unfold tripR_k1_t1 trip_k1_t1
    dsimp only
    simp only [View.readAt_eq_ld, Memref.IsWhole.read_unread]
    constructor
    · refine (kp4 _ _ _ b j).trans ?_
      show _ = Model.cell (Model.gi a b (Model.row k)) (fun g => ∑ l, Model.hid a b k l * a.whh g l) (Model.hid a b k) j
      have e1 := funext fun g => eg b g
      have e2 := funext fun i => (ih' b i).1
      refine congr (congr (congr (congrArg Model.cell e1) (funext fun g => Finset.sum_congr rfl fun l _ => ?_)) e2) rfl
      exact congr (congrArg (fun e e' : EReal => e * e') (ih' b l).1) (ew l g)
    · refine (kp3 _ _ _ _ b j).trans ?_
      rw [Finset.sum_range_succ, (ih' b j).2]
      refine congrArg (fun e : EReal => _ + e) ?_
      unfold sq
      refine if_congr Iff.rfl ?_ rfl
      have e3 := congr (congrArg (fun e e' : EReal => e - e') (ih' b j).1) (er b j)
      exact congr (congrArg (fun e e' : EReal => e * e') e3) e3

/-- What the second launch stores: the summed squared prediction error. -/
theorem out1 (h : Holds1 x0 x1 x2 a) : out1_A_3 (F := Ideal) c arg0 harg0 arg1 harg1 arg2 harg2 arg3 harg3 x0 x1 x2 (ix2 0 0) = Model.ctxSum a := by
  unfold out1_A_3
  rw [View.read_writes_eq_canon _ _ _ (cover1_A_3 (F := Ideal) c arg0 harg0 arg1 harg1 arg2 harg2 arg3 harg3 x0 x1 x2)]
  frame_out
  refine (kp5 _ _ _).trans ?_
  have hn : Scf.trips (0#32) (Scalar.addi 0#32 511#32) 1#32 = 511 := by decide
  rw [hn]
  have er : ∀ (b : Fin 16) (j : Fin 256), (View.ld x1 (Rect.unit (s := S512x16x256) ![511, 0, 0] S1x16x256.size inb_S512x16x256_S1x16x256_511_0_0) : S1x16x256.Idx → EReal) (ix3 0 b j)
      = Model.feats a b (Model.row 511) j := by
    intro b j
    refine (View.ld_unit_apply_of (S := S512x16x256) x1 _ _ _ _ (ix3 (Model.row 511) b j) ?_).trans (h.h1 _ _ _)
    intro d
    fin_cases d
    · rfl
    · show (b : ℕ) = 0 + b; omega
    · show (j : ℕ) = 0 + j; omega
  unfold Model.ctxSum
  refine Finset.sum_congr rfl fun b _ => ?_
  rw [Finset.sum_comm]
  refine Finset.sum_congr rfl fun j _ => ?_
  obtain ⟨s1, s2⟩ := state c arg0 harg0 arg1 harg1 arg2 harg2 arg3 harg3 h 511 (le_refl _) b j
  have e3 := congr (congrArg (fun e e' : EReal => e - e') s1) (er b j)
  refine (congr (congrArg (fun e e' : EReal => e + e') s2) (congr (congrArg (fun e e' : EReal => e * e') e3) e3)).trans ?_
  have e4 : ∑ s ∈ Finset.range 512, sq a b j s = _ := Finset.sum_range_succ _ 511
  refine e4.symm.trans ?_
  rw [Finset.sum_range_succ', Finset.sum_range]
  refine (congrArg (fun e : EReal => _ + e) (if_neg (Nat.lt_irrefl 0))).trans ((add_zero _).trans ?_)
  refine Finset.sum_congr rfl fun t _ => ?_
  refine (if_pos (Nat.succ_pos _)).trans ?_
  have e5 : Model.row (t + 1) = ⟨t + 1, by omega⟩ := Fin.ext (Nat.mod_eq_of_lt (by omega))
  rw [e5]

end

end Cert.Proof.K
-- ==== Proof.KTail.lean ====
module

public import proofs.«01_k».proof.Proof.KLoop

@[expose] public section

set_option maxRecDepth 16384

/-! The kernel's results after the whole run, as the mathematics over the arguments. -/

noncomputable section

namespace Cert.Proof.K

open Idealize.ShloMosaic Idealize.ShloMosaic.TcCoe Idealize.SL.Sem
open Cert.KernelIdeal Cert.KernelIdeal.Gen
open Cert.Proof.Model (In)
open Idealize.ShloMosaic.Pipeline (Dat Cfg Window)

section

variable (m : (ℓ : Loc nD τ sig) → Buf (Elt Ideal) ℓ) (ρ : Dev nD → PrngReg) (c : Dev nD)

/-- The recurrent layer's first maps, rows leading. -/
theorem g23 (t : Fin 512) (b : Fin 16) (g : Fin 768) :
    (W3 (F := Ideal) m ρ c (Proc.devRef .tc main_v23) : _ → EReal) (ix3 t b g) = Model.gi (inK m c) b t g := by
  have e : (W3 (F := Ideal) m ρ c (Proc.devRef .tc main_v23) : _ → EReal) (ix3 t b g) = (W2 (F := Ideal) m ρ c (Proc.devRef .tc main_v22_2) : _ → EReal) (ix3 b t g) := by
    simp only [W3]
    after_reads_at
  exact e.trans (congrFun (arr19 m ρ c) _)

/-- The convolution, rows leading. -/
theorem g24 (t : Fin 512) (b : Fin 16) (j : Fin 256) :
    (W3 (F := Ideal) m ρ c (Proc.devRef .tc main_v24) : _ → EReal) (ix3 t b j) = Model.feats (inK m c) b t j := by
  have e : (W3 (F := Ideal) m ρ c (Proc.devRef .tc main_v24) : _ → EReal) (ix3 t b j) = (W2 (F := Ideal) m ρ c (Proc.devRef .tc main_v22_3) : _ → EReal) (ix3 b t j) := by
    simp only [W3]
    after_reads_at
  exact e.trans (congrFun (arr20 m ρ c) _)

/-- The second map's weights. -/
theorem g17 (k : Fin 256) (g : Fin 768) :
    (W3 (F := Ideal) m ρ c (Proc.devRef .tc main_v17) : _ → EReal) (ix2 k g) = (inK m c).whh g k :=
  (congrFun ((W3_of m ρ c main_v17 (by decide)).trans (W2_of m ρ c main_v17 (by decide +kernel))) _).trans (e17 m ρ c k g)

/-- The index maps of the second launch: the whole arrays. -/
theorem idx1 : ∀ t : Fin cfg1.N, win1_0.index t = ![0, 0, 0] ∧ win1_1.index t = ![0, 0, 0] ∧ win1_2.index t = ![0, 0] ∧ win1_3.index t = ![0, 0] :=
  (by decide +kernel : ∀ t : Fin grid1.N, _)

/-- The second launch's input blocks. -/
theorem holds1 (t : Fin cfg1.N) : Holds1 (iblk1 (V3 (F := Ideal) m ρ) c 0 t) (iblk1 (V3 (F := Ideal) m ρ) c 1 t) (iblk1 (V3 (F := Ideal) m ρ) c 2 t) (inK m c) where
  h0 u b g := by
    have e : iblk1 (V3 (F := Ideal) m ρ) c 0 t (ix3 u b g) = (W3 (F := Ideal) m ρ c (Proc.devRef .tc main_v23) : _ → EReal) (ix3 u b g) := by
      blk_ext [iblk1, idx1 t]
    exact e.trans (g23 m ρ c u b g)
  h1 u b j := by
    have e : iblk1 (V3 (F := Ideal) m ρ) c 1 t (ix3 u b j) = (W3 (F := Ideal) m ρ c (Proc.devRef .tc main_v24) : _ → EReal) (ix3 u b j) := by
      blk_ext [iblk1, idx1 t]
    exact e.trans (g24 m ρ c u b j)
  h2 k g := by
    have e : iblk1 (V3 (F := Ideal) m ρ) c 2 t (ix2 k g) = (W3 (F := Ideal) m ρ c (Proc.devRef .tc main_v17) : _ → EReal) (ix2 k g) := by
      blk_ext [iblk1, idx1 t]
    exact e.trans (g17 m ρ c k g)

/-- The array of the summed squared prediction error after the second launch. -/
theorem arr3 : (W4 (F := Ideal) m ρ c (Proc.devRef .tc main_v25) : _ → EReal) = fun _ => Model.ctxSum (inK m c) := by
  refine (W4_arr m ρ c 3).trans ((dat1 (V3 m ρ) c).arrAt_eq_of_covers 3 ((fun _ => Model.ctxSum (inK m c)) : S1x1.Idx → EReal) (by decide +kernel) fun t hf y => ?_)
  blk_simp
  rw [after1_3]
  unfold outsAt1
  have ey : y = (ix2 0 0 : S1x1.Idx) := by
    funext d
    fin_cases d
    · exact Fin.ext (Nat.lt_one_iff.1 (show (y 0 : ℕ) < 1 from (y 0).isLt))
    · exact Fin.ext (Nat.lt_one_iff.1 (show (y 1 : ℕ) < 1 from (y 1).isLt))
  rw [ey]
  exact out1 c _ _ _ _ _ _ _ _ (holds1 m ρ c t)

/-- That array is untouched by the second launch. -/
theorem keep17 : (W4 (F := Ideal) m ρ c (Proc.devRef .tc main_v22_0) : _ → BitVec 32) = (W2 (F := Ideal) m ρ c (Proc.devRef .tc main_v22_0) : _ → BitVec 32) :=
  (W4_of m ρ c main_v22_0 (by decide +kernel)).trans (W3_of m ρ c main_v22_0 (by decide))

/-- That array is untouched by the second launch. -/
theorem keep18 : (W4 (F := Ideal) m ρ c (Proc.devRef .tc main_v22_1) : _ → BitVec 32) = (W2 (F := Ideal) m ρ c (Proc.devRef .tc main_v22_1) : _ → BitVec 32) :=
  (W4_of m ρ c main_v22_1 (by decide +kernel)).trans (W3_of m ρ c main_v22_1 (by decide))

/-- That array is untouched by the second launch. -/
theorem keep21 : (W4 (F := Ideal) m ρ c (Proc.devRef .tc main_v22_4) : _ → EReal) = (W2 (F := Ideal) m ρ c (Proc.devRef .tc main_v22_4) : _ → EReal) :=
  (W4_of m ρ c main_v22_4 (by decide +kernel)).trans (W3_of m ρ c main_v22_4 (by decide))

/-- That array is untouched by the second launch. -/
theorem keep22 : (W4 (F := Ideal) m ρ c (Proc.devRef .tc main_v22_5) : _ → EReal) = (W2 (F := Ideal) m ρ c (Proc.devRef .tc main_v22_5) : _ → EReal) :=
  (W4_of m ρ c main_v22_5 (by decide +kernel)).trans (W3_of m ρ c main_v22_5 (by decide))

/-- Result `main_v26`. -/
theorem r26 (b : Fin 16) (t : Fin 512) : (W5 (F := Ideal) m ρ c (Proc.devRef .tc main_v26) : _ → BitVec 32) (ix2 b t) = BitVec.ofNat 32 (Model.idx (inK m c) b t) := by
  have e : (W5 (F := Ideal) m ρ c (Proc.devRef .tc main_v26) : _ → BitVec 32) (ix2 b t) = (W4 (F := Ideal) m ρ c (Proc.devRef .tc main_v22_0) : _ → BitVec 32) (ix3 b t 0) := by
    simp only [W5]
    after_reads_at
  exact e.trans (congrFun ((keep17 m ρ c).trans (arr17 m ρ c)) _)

/-- Result `main_v27`. -/
theorem r27 (b : Fin 16) (w : Fin 256) : (W5 (F := Ideal) m ρ c (Proc.devRef .tc main_v27) : _ → BitVec 32) (ix2 b w) = BitVec.ofNat 32 (Model.widx (inK m c) b w) := by
  have e : (W5 (F := Ideal) m ρ c (Proc.devRef .tc main_v27) : _ → BitVec 32) (ix2 b w) = (W4 (F := Ideal) m ρ c (Proc.devRef .tc main_v22_1) : _ → BitVec 32) (ix3 b w 0) := by
    simp only [W5]
    after_reads_at
  exact e.trans (congrFun ((keep18 m ρ c).trans (arr18 m ρ c)) _)

/-- A total of a batch of single entries. -/
theorem total16 (v : FVec Ideal S16x1x1 .f32) (i : S_.Idx) :
    (Host.reduceAdd v (constant (F := Ideal) S_ .f32 0x00000000#32) reducesTo_S16x1x1_S_d0_1_2 h_S_ : S_.Idx → EReal) i = ∑ b : Fin 16, v (ix3 b 0 0) := by
  refine (Ideal.hostReduceAdd_total _ (fun b => b.elim0) _ _ _).trans ?_
  rw [sum_idx3]
  simp only [Fin.sum_univ_one, Fin.isValue]
  exact (congrArg (fun e : EReal => e + _) Ideal.ofBits_zero_f32).trans (zero_add _)

/-- The commitment loss as the kernel computes it: from the least expanded distances. -/
def commitK (a : In) : EReal :=
  Ideal.div (∑ b : Fin 16, ∑ t : Fin 512, Model.dist (Model.feats a b t) (Model.q a b t)) (Ideal.ofBits .f32 0x4A000000#32)

/-- The commitment loss. -/
theorem r29 (i : S_.Idx) : (W5 (F := Ideal) m ρ c (Proc.devRef .tc main_v29) : S_.Idx → EReal) i = commitK (inK m c) := by
  have e : (W5 (F := Ideal) m ρ c (Proc.devRef .tc main_v29) : S_.Idx → EReal)
      = Host.divf (Host.reduceAdd (W4 (F := Ideal) m ρ c (Proc.devRef .tc main_v22_4) : FVec Ideal S16x1x1 .f32) (constant (F := Ideal) S_ .f32 0x00000000#32) reducesTo_S16x1x1_S_d0_1_2 h_S_) (constant (F := Ideal) S_ .f32 0x4A000000#32) := by
    simp only [W5]
    after_reads_simp
    try rfl
  refine (congrFun e i).trans ?_
  unfold commitK
  refine congrArg (fun x : EReal => Ideal.div x _) ((total16 _ _).trans ?_)
  exact Finset.sum_congr rfl fun b _ => congrFun ((keep21 m ρ c).trans (arr21 m ρ c)) _

/-- The context loss. -/
theorem r31 (i : S_.Idx) : (W5 (F := Ideal) m ρ c (Proc.devRef .tc main_v31) : S_.Idx → EReal) i = Model.ctx (inK m c) := by
  have e : (W5 (F := Ideal) m ρ c (Proc.devRef .tc main_v31) : S_.Idx → EReal)
      = Host.divf (shapeCast S_ (W4 (F := Ideal) m ρ c (Proc.devRef .tc main_v25) : FVec Ideal S1x1 .f32) shapeCasts_S1x1_S_) (constant (F := Ideal) S_ .f32 0x49FF8000#32) := by
    simp only [W5]
    after_reads_simp
    try rfl
  refine (congrFun e i).trans ?_
  unfold Model.ctx
  exact congrArg (fun x : EReal => Ideal.div x _) (congrFun (arr3 m ρ c) _)

/-- The alignment loss. -/
theorem r37 (i : S_.Idx) : (W5 (F := Ideal) m ρ c (Proc.devRef .tc main_v37) : S_.Idx → EReal) i = Model.align (inK m c) := by
  have e : (W5 (F := Ideal) m ρ c (Proc.devRef .tc main_v37) : S_.Idx → EReal)
      = Host.divf (Host.reduceAdd (W4 (F := Ideal) m ρ c (Proc.devRef .tc main_v22_5) : FVec Ideal S16x1x1 .f32) (constant (F := Ideal) S_ .f32 0x00000000#32) reducesTo_S16x1x1_S_d0_1_2 h_S_) (constant (F := Ideal) S_ .f32 0x49800000#32) := by
    simp only [W5]
    after_reads_simp
    try rfl
  refine (congrFun e i).trans ?_
  unfold Model.align
  refine congrArg (fun x : EReal => Ideal.div x _) ((total16 _ _).trans ?_)
  exact Finset.sum_congr rfl fun b _ => congrFun ((keep22 m ρ c).trans (arr22 m ρ c)) _

/-- The quantisation loss. -/
theorem r35 (i : S_.Idx) : (W5 (F := Ideal) m ρ c (Proc.devRef .tc main_v35) : S_.Idx → EReal) i
    = commitK (inK m c) + Ideal.ofBits .f32 0x3E800000#32 * commitK (inK m c) + Ideal.ofBits .f32 0x3DCCCCCD#32 * Model.ctx (inK m c) := by
  have e : (W5 (F := Ideal) m ρ c (Proc.devRef .tc main_v35) : S_.Idx → EReal)
      = addf (addf (W5 (F := Ideal) m ρ c (Proc.devRef .tc main_v29) : FVec Ideal S_ .f32) (mulf (constant (F := Ideal) S_ .f32 0x3E800000#32) (W5 (F := Ideal) m ρ c (Proc.devRef .tc main_v29) : FVec Ideal S_ .f32)))
          (mulf (constant (F := Ideal) S_ .f32 0x3DCCCCCD#32) (W5 (F := Ideal) m ρ c (Proc.devRef .tc main_v31) : FVec Ideal S_ .f32)) := by
    simp only [W5]
    after_reads_simp
    try rfl
  refine (congrFun e i).trans ?_
  rw [← r29 m ρ c i, ← r31 m ρ c i]
  rfl

/-- The total loss. -/
theorem r39 (i : S_.Idx) : (W5 (F := Ideal) m ρ c (Proc.devRef .tc main_v39) : S_.Idx → EReal) i
    = commitK (inK m c) + Ideal.ofBits .f32 0x3E800000#32 * commitK (inK m c) + Ideal.ofBits .f32 0x3DCCCCCD#32 * Model.ctx (inK m c)
      + Model.align (inK m c) * Ideal.ofBits .f32 0x3DCCCCCD#32 := by
  have e : (W5 (F := Ideal) m ρ c (Proc.devRef .tc main_v39) : S_.Idx → EReal)
      = addf (W5 (F := Ideal) m ρ c (Proc.devRef .tc main_v35) : FVec Ideal S_ .f32) (mulf (W5 (F := Ideal) m ρ c (Proc.devRef .tc main_v37) : FVec Ideal S_ .f32) (constant (F := Ideal) S_ .f32 0x3DCCCCCD#32)) := by
    simp only [W5]
    after_reads_simp
    try rfl
  refine (congrFun e i).trans ?_
  rw [← r35 m ρ c i, ← r37 m ρ c i]
  rfl

end

end Cert.Proof.K
-- ==== Proof.Finite.lean ====
module

public import proofs.«01_k».proof.Proof.Math

@[expose] public section

set_option maxRecDepth 16384

/-! At finite inputs the expanded squared distance is the summed squared difference. -/

noncomputable section

namespace Cert.Proof.Model

open Idealize.ShloMosaic

/-- Being a real number. -/
def Real' (x : EReal) : Prop := ∃ r : ℝ, x = r

theorem Real'.add {x y : EReal} (hx : Real' x) (hy : Real' y) : Real' (x + y) := by
  obtain ⟨r, rfl⟩ := hx; obtain ⟨s, rfl⟩ := hy; exact ⟨r + s, (EReal.coe_add r s).symm⟩

theorem Real'.mul {x y : EReal} (hx : Real' x) (hy : Real' y) : Real' (x * y) := by
  obtain ⟨r, rfl⟩ := hx; obtain ⟨s, rfl⟩ := hy; exact ⟨r * s, (EReal.coe_mul r s).symm⟩

theorem Real'.zero : Real' 0 := ⟨0, rfl⟩

theorem Real'.max0 {x : EReal} (hx : Real' x) : Real' (max x 0) := by
  rcases max_choice x 0 with h | h <;> rw [h]
  · exact hx
  · exact Real'.zero

theorem Real'.sum {n : ℕ} (f : Fin n → EReal) (h : ∀ i, Real' (f i)) : Real' (∑ i, f i) :=
  Finset.sum_induction f Real' (fun _ _ => Real'.add) Real'.zero fun i _ => h i

/-- A sum of reals, as an extended real. -/
theorem coe_sum {n : ℕ} (f : Fin n → ℝ) : ∑ i, (f i : EReal) = ((∑ i, f i : ℝ) : EReal) := by
  induction n with
  | zero => rfl
  | succ n ih => rw [Fin.sum_univ_succ, Fin.sum_univ_succ, ih, EReal.coe_add]

/-- A value whose magnitude is below infinity is real. -/
theorem real_of_ne {x : EReal} (h1 : x ≠ ⊤) (h2 : x ≠ ⊥) : Real' x := ⟨x.toReal, (EReal.coe_toReal h1 h2).symm⟩

/-- The expanded squared distance of reals is the summed squared difference. -/
theorem dist_eq (f c : Fin 256 → EReal) (hf : ∀ j, Real' (f j)) (hc : ∀ j, Real' (c j)) :
    dist f c = ∑ j, (f j - c j) * (f j - c j) := by
  choose F hF using hf
  choose C hC using hc
  unfold dist
  simp only [hF, hC, two_eq, ← EReal.coe_mul, ← EReal.coe_sub, coe_sum, ← EReal.coe_add]
  refine congrArg _ ?_
  rw [Finset.mul_sum, ← Finset.sum_sub_distrib, ← Finset.sum_add_distrib]
  exact Finset.sum_congr rfl fun j _ => by ring

variable (a : In)

/-- The arguments the features and codes are made of are real. -/
structure Tame : Prop where
  x : ∀ b t k, Real' (a.x b t k)
  w1 : ∀ l k, Real' (a.w1 l k)
  b1 : ∀ l, Real' (a.b1 l)
  w2 : ∀ j l, Real' (a.w2 j l)
  b2 : ∀ j, Real' (a.b2 j)
  cw : ∀ o k s, Real' (a.cw o k s)
  cz : ∀ o, Real' (a.cz o)
  cb : ∀ n j, Real' (a.cb n j)

variable {a}

theorem Tame.h1 (h : Tame a) (b : Fin 16) (t : Fin 512) (j : Fin 512) : Real' (h1 a b t j) :=
  ((Real'.sum _ fun k => (h.x b t k).mul (h.w1 j k)).add (h.b1 j)).max0

theorem Tame.h2 (h : Tame a) (b : Fin 16) (t : Fin 512) (j : Fin 256) : Real' (h2 a b t j) :=
  ((Real'.sum _ fun k => (h.h1 b t k).mul (h.w2 j k)).add (h.b2 j)).max0

theorem Tame.hp (h : Tame a) (b : Fin 16) (s : ℕ) (j : Fin 256) : Real' (hp a b s j) := by
  unfold Model.hp
  split
  · exact h.h2 b _ j
  · exact Real'.zero

theorem Tame.feats (h : Tame a) (b : Fin 16) (t : Fin 512) (o : Fin 256) : Real' (feats a b t o) :=
  (((Real'.sum _ fun k => (h.hp b _ k).mul (h.cw o k 0)).add (Real'.sum _ fun k => (h.hp b _ k).mul (h.cw o k 1))).add
    (Real'.sum _ fun k => (h.hp b _ k).mul (h.cw o k 2))).add (h.cz o)

/-- The least expanded distances add up to the summed squared difference of rows and codes. -/
theorem Tame.commitSum (h : Tame a) : ∑ b : Fin 16, ∑ t : Fin 512, dist (Model.feats a b t) (q a b t) = commitSum a := by
  unfold Model.commitSum
  exact Finset.sum_congr rfl fun b _ => Finset.sum_congr rfl fun t _ => dist_eq _ _ (h.feats b t) fun j => h.cb _ j

end Cert.Proof.Model
-- ==== Proof.Pre.lean ====
module

public import proofs.«01_k».proof.Pre_tame_inputs
public import proofs.«01_k».proof.Proof.Finite
public import Idealize.ShloMosaic.Lib.Pointwise

@[expose] public section

set_option maxRecDepth 16384

/-! What the precondition says of the arguments: eight of them are finite, and one bias is zero. -/

noncomputable section

namespace Cert.Proof.Pre

open Idealize.ShloMosaic
open Cert.Pre_tame_inputs
open Cert.Proof.Model (Real' real_of_ne)

/-- The side conditions of the precondition's operations hold. -/
instance facts : Cert.Pre_tame_inputs.Facts where
  bcast_S_S16x512x1024 := by decide
  bcast_S_S512x1024 := by decide
  bcast_S_S512 := by decide
  bcast_S_S256x512 := by decide
  bcast_S_S256 := by decide
  bcast_S_S256x256x3 := by decide
  bcast_S_S1024x256 := by decide
  slices_S768_S256_512 := by decide

/-- An entry whose magnitude compares below infinity is real. -/
theorem real_of_lt {s : Shape} (x : FVec Ideal s .f32) (h : S_.BroadcastsInDim s (![] : Fin 0 → Fin s.rank))
    (e : cmpf .olt (Host.absf x) (broadcastInDim s ![] h (constant (F := Ideal) S_ .f32 0x7F800000#32)) = fun _ => 1#1) (i : s.Idx) :
    Real' (x i) := by
  have e' : Ideal.cmp .olt (max (x i) (-(x i))) (Ideal.ofBits .f32 0x7F800000#32) = 1#1 := congrFun e i
  have htop : Ideal.ofBits .f32 0x7F800000#32 = ⊤ := by simp [Ideal.ofBits, Ideal.ieee]
  rw [htop] at e'
  have hlt : max (x i) (-(x i)) < ⊤ := by
    by_contra hn
    simp [Ideal.cmp, hn] at e'
  refine real_of_ne (fun hx => ?_) (fun hx => ?_)
  · rw [hx] at hlt; simp at hlt
  · rw [hx] at hlt; simp at hlt

/-- An entry of the last third of the second bias that compares equal to zero is zero. -/
theorem zero_of_eq (x : FVec Ideal S768 .f32)
    (e : cmpf .oeq (extractStridedSlice S256 ![512] x (by decide)) (broadcastInDim S256 ![] (by decide : S_.BroadcastsInDim S256 (![] : Fin 0 → Fin S256.rank)) (constant (F := Ideal) S_ .f32 0x00000000#32)) = fun _ => 1#1)
    (j : Fin 256) : (x : S768.Idx → EReal) (ix1 ⟨512 + j, by omega⟩) = 0 := by
  have e' := congrFun e (ix1 j)
  have e'' : Ideal.cmp .oeq ((x : S768.Idx → EReal) (ix1 ⟨512 + j, by omega⟩)) (Ideal.ofBits .f32 0x00000000#32) = 1#1 := by
    refine Eq.trans ?_ e'
    refine congrArg (fun y : EReal => Ideal.cmp .oeq y (Ideal.ofBits .f32 0x00000000#32)) ?_
    refine congrArg x ?_
    funext d
    refine Fin.ext ?_
    fin_cases d
    rfl
  rw [Ideal.ofBits_zero_f32] at e''
  by_contra hn
  simp [Ideal.cmp, hn] at e''

end Cert.Proof.Pre

end
-- ==== Proof.KClaim.lean ====
module

public import proofs.«01_k».proof.Defs
public import proofs.«01_k».proof.Proof.KTail
public import proofs.«01_k».proof.Proof.Pre

@[expose] public section

set_option maxRecDepth 16384

/-! The kernel's run with its results named, and what the precondition says of its arguments. -/

noncomputable section

namespace Cert.Proof.K

open Idealize.ShloMosaic Idealize.ShloMosaic.TcCoe Idealize.SL.Sem
open Cert.KernelIdeal Cert.KernelIdeal.Gen
open Cert.Proof.Model (In Tame Real')

variable (m : (ℓ : Loc nD τ sig) → Buf (Elt Ideal) ℓ) (ρ : Dev nD → PrngReg) (c : Dev nD)

/-- The kernel runs to an end with its results at the last contents and its arguments unchanged. -/
theorem results : θ_run (defs (F := Ideal)) (onTc (τ := τ) (main (F := Ideal))) ⟨m, fun _ => 0, ρ⟩ (fun r => ∀ c : Dev nD,
    r.2.mem ((c.tc : Thread nD τ).loc main_v27) = W5 m ρ c (Proc.devRef .tc main_v27)
    ∧ r.2.mem ((c.tc : Thread nD τ).loc main_v26) = W5 m ρ c (Proc.devRef .tc main_v26)
    ∧ r.2.mem ((c.tc : Thread nD τ).loc main_v29) = W5 m ρ c (Proc.devRef .tc main_v29)
    ∧ r.2.mem ((c.tc : Thread nD τ).loc main_v29) = W5 m ρ c (Proc.devRef .tc main_v29)
    ∧ r.2.mem ((c.tc : Thread nD τ).loc main_v31) = W5 m ρ c (Proc.devRef .tc main_v31)
    ∧ r.2.mem ((c.tc : Thread nD τ).loc main_v35) = W5 m ρ c (Proc.devRef .tc main_v35)
    ∧ r.2.mem ((c.tc : Thread nD τ).loc main_v37) = W5 m ρ c (Proc.devRef .tc main_v37)
    ∧ r.2.mem ((c.tc : Thread nD τ).loc main_v39) = W5 m ρ c (Proc.devRef .tc main_v39)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) :=
  (θ_run _ _ _).mono (fun _ h c =>
    ⟨(h.1 c _ (mem_uc main_v27 (by decide))),
     (h.1 c _ (mem_uc main_v26 (by decide))),
     (h.1 c _ (mem_uc main_v29 (by decide))),
     (h.1 c _ (mem_uc main_v29 (by decide))),
     (h.1 c _ (mem_uc main_v31 (by decide))),
     (h.1 c _ (mem_uc main_v35 (by decide))),
     (h.1 c _ (mem_uc main_v37 (by decide))),
     (h.1 c _ (mem_uc main_v39 (by decide))),
     (h.1 c _ (mem_uc main_arg0 (by decide))).trans (W5_main_arg0 m ρ c),
     (h.1 c _ (mem_uc main_arg1 (by decide))).trans (W5_main_arg1 m ρ c),
     (h.1 c _ (mem_uc main_arg2 (by decide))).trans (W5_main_arg2 m ρ c),
     (h.1 c _ (mem_uc main_arg3 (by decide))).trans (W5_main_arg3 m ρ c),
     (h.1 c _ (mem_uc main_arg4 (by decide))).trans (W5_main_arg4 m ρ c),
     (h.1 c _ (mem_uc main_arg5 (by decide))).trans (W5_main_arg5 m ρ c),
     (h.1 c _ (mem_uc main_arg6 (by decide))).trans (W5_main_arg6 m ρ c),
     (h.1 c _ (mem_uc main_arg7 (by decide))).trans (W5_main_arg7 m ρ c),
     (h.1 c _ (mem_uc main_arg8 (by decide))).trans (W5_main_arg8 m ρ c),
     (h.1 c _ (mem_uc main_arg9 (by decide))).trans (W5_main_arg9 m ρ c),
     (h.1 c _ (mem_uc main_arg10 (by decide))).trans (W5_main_arg10 m ρ c),
     (h.1 c _ (mem_uc main_arg11 (by decide))).trans (W5_main_arg11 m ρ c),
     (h.1 c _ (mem_uc main_arg12 (by decide))).trans (W5_main_arg12 m ρ c),
     (h.1 c _ (mem_uc main_arg13 (by decide))).trans (W5_main_arg13 m ρ c),
     (h.1 c _ (mem_uc main_arg14 (by decide))).trans (W5_main_arg14 m ρ c)⟩) (run m ρ)

/-- The arguments the features and codes are made of are finite. -/
theorem tame (hp : Cert.Pre_KernelIdeal_tame_inputs m) : Tame (inK m c) := by
  have h := hp c
  have l {s : Shape} (x : FVec Ideal s .f32) (hb : Cert.Pre_tame_inputs.S_.BroadcastsInDim s (![] : Fin 0 → Fin s.rank)) := Pre.real_of_lt x hb
  obtain ⟨h0, h1, h2, h3, h4, h5, h6, h7, -⟩ := h
  exact
    { x := fun b t k => l _ (by decide) h0 (ix3 b t k)
      w1 := fun l' k => l _ (by decide) h1 (ix2 l' k)
      b1 := fun l' => l _ (by decide) h2 (ix1 l')
      w2 := fun j l' => l _ (by decide) h3 (ix2 j l')
      b2 := fun j => l _ (by decide) h4 (ix1 j)
      cw := fun o k s => l _ (by decide) h5 (ix3 o k s)
      cz := fun o => l _ (by decide) h6 (ix1 o)
      cb := fun n j => l _ (by decide) h7 (ix2 n j) }

/-- The last third of the recurrent bias is zero. -/
theorem bias_zero (hp : Cert.Pre_KernelIdeal_tame_inputs m) (j : Fin 256) : (inK m c).bhh ⟨512 + j, by omega⟩ = 0 :=
  Pre.zero_of_eq _ (hp c).2.2.2.2.2.2.2.2 j

/-- At finite arguments the kernel's commitment loss is the mathematics'. -/
theorem commit_eq (hp : Cert.Pre_KernelIdeal_tame_inputs m) : commitK (inK m c) = Model.commit (inK m c) := by
  unfold commitK Model.commit
  rw [(tame m c hp).commitSum]

end Cert.Proof.K

end
-- ==== Proof.RFeat.lean ====
module

public import proofs.«01_k».proof.Proof.Model
public import proofs.«01_k».proof.Proof.RefFrame
public import Idealize.ShloMosaic.Lib.StableHlo.ReadAt
public import Idealize.ShloMosaic.Lib.Claim

@[expose] public section

set_option maxRecDepth 16384

/-! The reference's layers, convolution and distances, read at indices. -/

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo
open Cert.Proof.Model (In)

section

variable (V : Valuation τ sig (Elt Ideal))

/-- The reference's arguments in a valuation, read at plain indices. -/
def inV : In where
  x b t k := (V (Proc.devRef .tc main_arg0) : _ → EReal) (ix3 b t k)
  w1 l k := (V (Proc.devRef .tc main_arg1) : _ → EReal) (ix2 l k)
  b1 l := (V (Proc.devRef .tc main_arg2) : _ → EReal) (ix1 l)
  w2 j l := (V (Proc.devRef .tc main_arg3) : _ → EReal) (ix2 j l)
  b2 j := (V (Proc.devRef .tc main_arg4) : _ → EReal) (ix1 j)
  cw o k s := (V (Proc.devRef .tc main_arg5) : _ → EReal) (ix3 o k s)
  cz o := (V (Proc.devRef .tc main_arg6) : _ → EReal) (ix1 o)
  cb n j := (V (Proc.devRef .tc main_arg7) : _ → EReal) (ix2 n j)
  wih g k := (V (Proc.devRef .tc main_arg8) : _ → EReal) (ix2 g k)
  whh g k := (V (Proc.devRef .tc main_arg9) : _ → EReal) (ix2 g k)
  bih g := (V (Proc.devRef .tc main_arg10) : _ → EReal) (ix1 g)
  bhh g := (V (Proc.devRef .tc main_arg11) : _ → EReal) (ix1 g)
  wcb n j := (V (Proc.devRef .tc main_arg12) : _ → EReal) (ix2 n j)
  aw j k := (V (Proc.devRef .tc main_arg13) : _ → EReal) (ix2 j k)
  ab j := (V (Proc.devRef .tc main_arg14) : _ → EReal) (ix1 j)

/-- The second layer after the first stretch. -/
theorem s0_h2 (b : Fin 16) (t : Fin 512) (j : Fin 256) :
    (after hostOps0 V (Proc.devRef .tc main_v13) : _ → EReal) (ix3 b t j) = Model.h2 (inV V) b t j := by
  unfold Model.h2 Model.h1 inV
  rw [← Ideal.ofBits_zero_f32]
  after_reads_at

/-- The padded second layer after the second stretch. -/
theorem s1_hp (p : Fin 16 → Fin 512 → Fin 256 → EReal) (h13 : ∀ b t j, (V (Proc.devRef .tc main_v13) : _ → EReal) (ix3 b t j) = p b t j)
    (hc : (V (Proc.devRef .tc main_c) : _ → BitVec 32) = fun _ => 0#32) (b : Fin 16) (s : Fin 514) (j : Fin 256) :
    (after hostOps0_1 V (Proc.devRef .tc main_v14) : _ → EReal) (ix3 b s j)
      = if h : 1 ≤ (s : ℕ) ∧ (s : ℕ) - 1 < 512 then p b ⟨s - 1, h.2⟩ j else 0 := by
  after_reads_at
  simp only [h13, hc]
  split
  · rfl
  · show ((((0#32 : BitVec 32).toInt : ℤ) : ℝ) : EReal) = 0
    simp

/-- The convolution after the third stretch. -/
theorem s2_v34 (p : Fin 16 → ℕ → Fin 256 → EReal) (h14 : ∀ b (s : Fin 514) j, (V (Proc.devRef .tc main_v14) : _ → EReal) (ix3 b s j) = p b s j)
    (b : Fin 16) (t : Fin 512) (o : Fin 256) :
    (after hostOps0_2 V (Proc.devRef .tc main_v34) : _ → EReal) (ix3 b t o)
      = (∑ k : Fin 256, p b t k * (inV V).cw o k 0) + (∑ k : Fin 256, p b (t + 1) k * (inV V).cw o k 1)
        + (∑ k : Fin 256, p b (t + 2) k * (inV V).cw o k 2) + (inV V).cz o := by
  unfold inV
  after_reads_at
  simp only [h14]
  rw [add_comm (t : ℕ) 1, add_comm (t : ℕ) 2]

/-- The distances after the third stretch. -/
theorem s2_v49 (r : Fin 8192) (n : Fin 1024) :
    (after hostOps0_2 V (Proc.devRef .tc main_v49) : _ → EReal) (ix2 r n)
      = Model.dist (fun j => (after hostOps0_2 V (Proc.devRef .tc main_v34) : _ → EReal) (ix3 ⟨r / 512, by omega⟩ ⟨r % 512, by omega⟩ j)) ((inV V).cb n) := by
  unfold inV Model.dist
  after_reads_at

end

end Cert.Proof.Ref
-- ==== Proof.RMin.lean ====
module

public import proofs.«01_k».proof.Proof.RFeat
public import Idealize.ShloMosaic.Lib.Routing.Ops
public import Idealize.ShloMosaic.Lib.KernelVsHost

@[expose] public section

set_option maxRecDepth 16384

/-! The reference's arg-min, and its reading of a table's rows, at indices. -/

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo
open Cert.Proof.Model (In)

/-- The better of two candidates: the lower value, on a tie the lower index. -/
def best (p q : EReal × ℕ) : EReal × ℕ := if p.1 < q.1 ∨ (p.1 = q.1 ∧ p.2 < q.2) then p else q

/-- A candidate with its index as a word. -/
def emb (p : EReal × ℕ) : Ideal .f32 × BitVec 32 := (p.1, BitVec.ofNat 32 p.2)

/-- A small natural as a word, read signed. -/
theorem toInt_small {a : ℕ} (ha : a < 2 ^ 31) : (BitVec.ofNat 32 a).toInt = a := by
  rw [BitVec.toInt_eq_toNat_of_lt] <;> simp [BitVec.toNat_ofNat] <;> omega

/-- The program's reducer picks the better candidate. -/
theorem reducer_emb (p q : EReal × ℕ) (hp : p.2 < 2 ^ 31) (hq : q.2 < 2 ^ 31) :
    reducer_argmin_f32_i32 (F := Ideal) (emb p) (emb q) = emb (best p q) := by
  obtain ⟨x, i⟩ := p
  obtain ⟨y, j⟩ := q
  simp only [reducer_argmin_f32_i32, emb, best, Ideal.cmpf_def, Ideal.cmp, IntOp.cmpi, IntOp.ori, IntOp.andi, Scalar.select, BitVec.slt,
    toInt_small hp, toInt_small hq]
  rcases lt_trichotomy x y with h | h | h
  · simp [h, h.ne]
  · subst h
    by_cases hij : i < j <;> simp [hij]
  · simp [h, h.not_gt, h.ne', not_lt.2 h.le]

/-- The best candidate's index is small when both are. -/
theorem best_small (p q : EReal × ℕ) (hp : p.2 < 2 ^ 31) (hq : q.2 < 2 ^ 31) : (best p q).2 < 2 ^ 31 := by
  unfold best; split <;> assumption

/-- The reducer's fold over a list of candidates is the fold of `best`. -/
theorem foldl_emb (l : List (EReal × ℕ)) : ∀ p : EReal × ℕ, p.2 < 2 ^ 31 → (∀ q ∈ l, q.2 < 2 ^ 31) →
    (l.map emb).foldl (reducer_argmin_f32_i32 (F := Ideal)) (emb p) = emb (l.foldl best p) := by
  induction l with
  | nil => intro p _ _; rfl
  | cons q l ih =>
    intro p hp hl
    rw [List.map_cons, List.foldl_cons, List.foldl_cons, reducer_emb p q hp (hl q (List.mem_cons_self ..))]
    exact ih _ (best_small p q hp (hl q (List.mem_cons_self ..))) fun r hr => hl r (List.mem_cons_of_mem _ hr)

/-- Being no worse than a candidate. -/
def Le (r q : EReal × ℕ) : Prop := r.1 < q.1 ∨ (r.1 = q.1 ∧ r.2 ≤ q.2)

theorem Le.trans {p q r : EReal × ℕ} (h : Le p q) (h' : Le q r) : Le p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem best_le_left (p q : EReal × ℕ) : Le (best p q) p := by
  unfold best Le
  split
  · exact Or.inr ⟨rfl, le_rfl⟩
  · rename_i h
    push Not at h
    rcases lt_or_eq_of_le h.1 with h1 | h1
    · exact Or.inl h1
    · exact Or.inr ⟨h1, h.2 h1.symm⟩

theorem best_le_right (p q : EReal × ℕ) : Le (best p q) q := by
  unfold best Le
  split
  · rename_i h
    rcases h with h | ⟨h, k⟩
    · exact Or.inl h
    · exact Or.inr ⟨h, k.le⟩
  · exact Or.inr ⟨rfl, le_rfl⟩

/-- The fold returns one of the candidates, no worse than any. -/
theorem foldl_best (l : List (EReal × ℕ)) : ∀ p : EReal × ℕ, l.foldl best p ∈ p :: l ∧ ∀ q ∈ p :: l, Le (l.foldl best p) q := by
  induction l with
  | nil => intro p; exact ⟨List.mem_cons_self .., fun q hq => by rw [List.mem_singleton.1 hq]; exact Or.inr ⟨rfl, le_rfl⟩⟩
  | cons q l ih =>
    intro p
    rw [List.foldl_cons]
    obtain ⟨h1, h2⟩ := ih (best p q)
    have hb := h2 _ (List.mem_cons_self ..)
    refine ⟨?_, fun r hr => ?_⟩
    · rcases List.mem_cons.1 h1 with h | h
      · rw [h]
        unfold best
        split
        · exact List.mem_cons_self ..
        · exact List.mem_cons_of_mem _ (List.mem_cons_self ..)
      · exact List.mem_cons_of_mem _ (List.mem_cons_of_mem _ h)
    · rcases List.mem_cons.1 hr with h | h
      · rw [h]; exact hb.trans (best_le_left p q)
      · rcases List.mem_cons.1 h with h | h
        · rw [h]; exact hb.trans (best_le_right p q)
        · exact h2 r (List.mem_cons_of_mem _ h)

/-- The fold over candidates that are exactly a family's entries finds the family's first least entry. -/
theorem foldl_am {n : ℕ} [NeZero n] (d : Fin n → EReal) (l : List (EReal × ℕ)) (hl : ∀ p, p ∈ l ↔ ∃ i : Fin n, p = (d i, (i : ℕ))) :
    (l.foldl best (⊤, 0)).2 = Model.am d := by
  obtain ⟨h1, h2⟩ := foldl_best l (⊤, 0)
  generalize l.foldl best (⊤, 0) = r at h1 h2
  have hr : ∃ i : Fin n, r.1 = d i ∧ r.2 = i := by
    rcases List.mem_cons.1 h1 with h | h
    · refine ⟨0, ?_, by rw [h]; rfl⟩
      have := h2 (d 0, ((0 : Fin n) : ℕ)) (List.mem_cons_of_mem _ ((hl _).2 ⟨0, rfl⟩))
      rw [h] at this ⊢
      rcases this with h' | ⟨h', _⟩
      · exact absurd h' not_top_lt
      · exact h'
    · obtain ⟨i, e⟩ := (hl _).1 h
      exact ⟨i, by rw [e], by rw [e]⟩
  obtain ⟨i, e1, e2⟩ := hr
  have hle : ∀ j : Fin n, d i < d j ∨ (d i = d j ∧ (i : ℕ) ≤ j) := fun j => by
    have := h2 (d j, (j : ℕ)) (List.mem_cons_of_mem _ ((hl _).2 ⟨j, rfl⟩))
    unfold Le at this
    rwa [e1, e2] at this
  rw [e2, Model.am_eq d i (fun j => (hle j).elim le_of_lt fun h => h.1.le)
    (fun j hj => (hle j).elim id fun h => absurd (Fin.lt_def.1 hj) (not_lt.2 h.2))]

/-- The arg-min along the rows of a table of values, at a row. -/
theorem argmin_rows {R n : ℕ} [NeZero n] (hn : n < 2 ^ 31) (x : FVec Ideal ⟨2, ![R, n]⟩ .f32) (y : (⟨2, ![R, n]⟩ : Shape).Idx → BitVec 32)
    (ix : S_.Idx → Ideal .f32) (iy : S_.Idx → BitVec 32) (h : (⟨2, ![R, n]⟩ : Shape).ReducesTo [1] ⟨1, ![R]⟩) (hu : 0 < S_.numel)
    (hdr : ∀ i : (⟨2, ![R, n]⟩ : Shape).Idx, (h.drop i 0 : ℕ) = i 0)
    (hy : ∀ r k, y (ix2 r k) = BitVec.ofNat 32 k) (hx0 : ix = fun _ => (⊤ : EReal)) (hy0 : iy = fun _ => 0#32) (r : Fin R) (d : Fin n → EReal)
    (hd : ∀ k, (x : _ → EReal) (ix2 r k) = d k) :
    (Host.argReduce (reducer_argmin_f32_i32 (F := Ideal)) x y ix iy h hu (ix1 r)).2 = BitVec.ofNat 32 (Model.am d) := by
  rw [Ideal.argReduce_eq_reduce2, Host.reduce2_eq_foldl_fiber, hx0, hy0]
  have hdrop : ∀ i : (⟨2, ![R, n]⟩ : Shape).Idx, h.drop i = ix1 r ↔ ∃ k, i = ix2 r k := by
    intro i
    constructor
    · intro e
      refine ⟨⟨(i 1).val, (i 1).isLt⟩, ?_⟩
      funext a
      match a with
      | ⟨0, _⟩ =>
        have := congrArg Fin.val (congrFun e 0)
        rw [hdr] at this
        exact Fin.ext this
      | ⟨1, _⟩ => rfl
    · rintro ⟨k, rfl⟩
      funext a
      obtain rfl : a = 0 := Subsingleton.elim _ _
      exact Fin.ext (hdr _)
  set l : List (EReal × ℕ) := ((List.finRange (⟨2, ![R, n]⟩ : Shape).numel).filter fun k => h.drop ((⟨2, ![R, n]⟩ : Shape).rowMajor.symm k) = ix1 r).map
    fun k => ((x : _ → EReal) ((⟨2, ![R, n]⟩ : Shape).rowMajor.symm k), (y ((⟨2, ![R, n]⟩ : Shape).rowMajor.symm k)).toNat) with hldef
  have hmem : ∀ p, p ∈ l ↔ ∃ i : Fin n, p = (d i, (i : ℕ)) := by
    intro p
    rw [hldef, List.mem_map]
    constructor
    · rintro ⟨k, hk, rfl⟩
      obtain ⟨i, e⟩ := (hdrop _).1 (of_decide_eq_true (List.mem_filter.1 hk).2)
      refine ⟨i, ?_⟩
      rw [e, hd, hy]
      refine Prod.ext rfl ?_
      show (BitVec.ofNat 32 i).toNat = i
      rw [BitVec.toNat_ofNat, Nat.mod_eq_of_lt (by have := i.isLt; omega)]
    · rintro ⟨i, rfl⟩
      refine ⟨(⟨2, ![R, n]⟩ : Shape).rowMajor (ix2 r i), ?_, ?_⟩
      · refine List.mem_filter.2 ⟨List.mem_finRange _, decide_eq_true ?_⟩
        rw [Equiv.symm_apply_apply]
        exact (hdrop _).2 ⟨i, rfl⟩
      · rw [Equiv.symm_apply_apply, hd, hy]
        refine Prod.ext rfl ?_
        show (BitVec.ofNat 32 i).toNat = i
        rw [BitVec.toNat_ofNat, Nat.mod_eq_of_lt (by have := i.isLt; omega)]
  have hfib : Host.argReduceFiber (x : _ → Ideal .f32) y h (ix1 r) = l.map emb := by
    rw [hldef, List.map_map]
    refine List.map_congr_left fun k _ => ?_
    refine Prod.ext rfl ?_
    exact ((BitVec.ofNat_toNat 32 _).trans (BitVec.setWidth_eq _)).symm
  rw [hfib]
  have := foldl_emb l (⊤, 0) (by norm_num) (fun q hq => by
    obtain ⟨i, rfl⟩ := (hmem q).1 hq
    exact lt_trans i.isLt hn)
  refine (congrArg Prod.snd this).trans ?_
  exact congrArg (BitVec.ofNat 32) (foldl_am d l hmem)

/-- A small natural's word is not below zero. -/
theorem slt_zero {a : ℕ} (ha : a < 2 ^ 31) : IntOp.cmpi .slt (BitVec.ofNat 32 a) 0#32 = 0#1 := by
  have h := toInt_small ha
  have h0 : ¬ ((a : ℤ) < 0) := by omega
  simp only [IntOp.cmpi, BitVec.slt, h, BitVec.toInt_zero]
  rw [decide_eq_false h0]
  rfl

/-- A small natural's word is at least zero. -/
theorem sge_zero {a : ℕ} (ha : a < 2 ^ 31) : IntOp.cmpi .sge (BitVec.ofNat 32 a) 0#32 = 1#1 := by
  have h := toInt_small ha
  simp [IntOp.cmpi, BitVec.sle, h]

/-- Small naturals' words are ordered as the naturals. -/
theorem sle_of_le {a b : ℕ} (hb : b < 2 ^ 31) (h : a ≤ b) : IntOp.cmpi .sle (BitVec.ofNat 32 a) (BitVec.ofNat 32 b) = 1#1 := by
  have h1 := toInt_small (lt_of_le_of_lt h hb)
  have h2 := toInt_small hb
  simp [IntOp.cmpi, BitVec.sle, h1, h2, h]

section

variable (V : Valuation τ sig (Elt Ideal))

/-- The first arg-min's stretch, at a row. -/
theorem s3_v50 (r : Fin 8192) (d : Fin 1024 → EReal) (hd : ∀ k, (V (Proc.devRef .tc main_v49) : _ → EReal) (ix2 r k) = d k) :
    (after hostOps0_3 V (Proc.devRef .tc main_v50) : _ → BitVec 32) (ix1 r) = BitVec.ofNat 32 (Model.am d) := by
  have e : (after hostOps0_3 V (Proc.devRef .tc main_v50) : _ → BitVec 32)
      = fun j => (Host.argReduce (reducer_argmin_f32_i32 (F := Ideal)) (V (Proc.devRef .tc main_v49)) (iotaInDim S8192x1024 32 1)
          (constant (F := Ideal) S_ .f32 0x7F800000#32) (constantI S_ 32 0#32) reducesTo_S8192x1024_S8192_d1 h_S_ j).2 := by
    after_reads_simp
    try rfl
  rw [e]
  exact argmin_rows (by norm_num) _ _ _ _ _ _ (fun i => reducesTo_S8192x1024_S8192_d1.drop_apply_val_of_eq i 0 0)
    (fun r k => rfl) (funext fun i => by show Ideal.ofBits .f32 0x7F800000#32 = ⊤; simp [Ideal.ofBits, Ideal.ieee]) rfl r d hd

/-- The second arg-min's stretch, at a row. -/
theorem s7_v96 (r : Fin 4096) (d : Fin 128 → EReal) (hd : ∀ k, (V (Proc.devRef .tc main_v95) : _ → EReal) (ix2 r k) = d k) :
    (after hostOps0_7 V (Proc.devRef .tc main_v96) : _ → BitVec 32) (ix1 r) = BitVec.ofNat 32 (Model.am d) := by
  have e : (after hostOps0_7 V (Proc.devRef .tc main_v96) : _ → BitVec 32)
      = fun j => (Host.argReduce (reducer_argmin_f32_i32 (F := Ideal)) (V (Proc.devRef .tc main_v95)) (iotaInDim S4096x128 32 1)
          (constant (F := Ideal) S_ .f32 0x7F800000#32) (constantI S_ 32 0#32) reducesTo_S4096x128_S4096_d1 h_S_ j).2 := by
    after_reads_simp
    try rfl
  rw [e]
  exact argmin_rows (by norm_num) _ _ _ _ _ _ (fun i => reducesTo_S4096x128_S4096_d1.drop_apply_val_of_eq i 0 0)
    (fun r k => rfl) (funext fun i => by show Ideal.ofBits .f32 0x7F800000#32 = ⊤; simp [Ideal.ofBits, Ideal.ieee]) rfl r d hd

/-- The first table reading's stretch, at a row whose index is in range. -/
theorem s4_v51 (r : Fin 8192) (j : Fin 256) (b : Fin 1024) (hb : (V (Proc.devRef .tc main_v50) : _ → BitVec 32) (ix1 r) = BitVec.ofNat 32 b) :
    (after hostOps0_4 V (Proc.devRef .tc main_v51) : _ → EReal) (ix2 r j) = (V (Proc.devRef .tc main_arg7) : _ → EReal) (ix2 b j) := by
  after_reads_at
  have hlt : (b : ℕ) < 1024 := b.isLt
  have e : Scalar.select (IntOp.cmpi CmpIPredicate.slt (V (Proc.devRef .tc main_v50) (ix1 r)) 0#32)
      (IntOp.addi (V (Proc.devRef .tc main_v50) (ix1 r)) 1024#32) (V (Proc.devRef .tc main_v50) (ix1 r)) = BitVec.ofNat 32 b := by
    rw [hb, slt_zero (by omega)]
    rfl
  rw [e, sge_zero (by omega), sle_of_le (by omega) (by omega) ]
  refine (congrArg (fun z => Scalar.select z _ _) (?_ : _ = 1#1)).trans ?_
  · rw [Finset.univ_unique, Finset.fold_singleton]; rfl
  refine (rfl : Scalar.select 1#1 _ _ = _).trans ?_
  refine Routing.gather_row _ rfl rfl rfl rfl rfl _ _ r j b (Eq.trans ?_ e) (by norm_num)
  pointwise

/-- The second table reading's stretch, at a row whose index is in range. -/
theorem s8_v97 (r : Fin 4096) (j : Fin 256) (b : Fin 128) (hb : (V (Proc.devRef .tc main_v96) : _ → BitVec 32) (ix1 r) = BitVec.ofNat 32 b) :
    (after hostOps0_8 V (Proc.devRef .tc main_v97) : _ → EReal) (ix2 r j) = (V (Proc.devRef .tc main_arg12) : _ → EReal) (ix2 b j) := by
  after_reads_at
  have hlt : (b : ℕ) < 128 := b.isLt
  have e : Scalar.select (IntOp.cmpi CmpIPredicate.slt (V (Proc.devRef .tc main_v96) (ix1 r)) 0#32)
      (IntOp.addi (V (Proc.devRef .tc main_v96) (ix1 r)) 128#32) (V (Proc.devRef .tc main_v96) (ix1 r)) = BitVec.ofNat 32 b := by
    rw [hb, slt_zero (by omega)]
    rfl
  rw [e, sge_zero (by omega), sle_of_le (by omega) (by omega) ]
  refine (congrArg (fun z => Scalar.select z _ _) (?_ : _ = 1#1)).trans ?_
  · rw [Finset.univ_unique, Finset.fold_singleton]; rfl
  refine (rfl : Scalar.select 1#1 _ _ = _).trans ?_
  refine Routing.gather_row _ rfl rfl rfl rfl rfl _ _ r j b (Eq.trans ?_ e) (by norm_num)
  pointwise

end

end Cert.Proof.Ref
-- ==== Proof.RPre.lean ====
module

public import proofs.«01_k».proof.Proof.RMin

@[expose] public section

set_option maxRecDepth 16384

/-! The reference up to its loop: features, codes, and the two first losses. -/

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo
open Cert.Proof.Model (In)

section

variable (V : Valuation τ sig (Elt Ideal))

/-- The contents after the first stretch, and so on for the next five. -/
abbrev P1 : Valuation τ sig (Elt Ideal) := after hostOps0 V
/-- The contents after two stretches. -/
abbrev P2 : Valuation τ sig (Elt Ideal) := after hostOps0_1 (P1 V)
/-- The contents after three stretches. -/
abbrev P3 : Valuation τ sig (Elt Ideal) := after hostOps0_2 (P2 V)
/-- The contents after four stretches. -/
abbrev P4 : Valuation τ sig (Elt Ideal) := after hostOps0_3 (P3 V)
/-- The contents after five stretches. -/
abbrev P5 : Valuation τ sig (Elt Ideal) := after hostOps0_4 (P4 V)
/-- The contents at the loop's entry. -/
abbrev P6 : Valuation τ sig (Elt Ideal) := after hostOps0_5 (P5 V)

/-- An argument keeps its contents up to the third stretch. -/
theorem P2_arg (r : Ref sig .tc) (h : r ∈ argRefs) : P2 V (Proc.devRef .tc r) = V (Proc.devRef .tc r) := by
  fin_cases h <;> (rw [P2, P1, keep1 _ _ (by decide), keep0 _ _ (by decide)])

/-- An argument keeps its contents up to the fifth stretch. -/
theorem P4_arg (r : Ref sig .tc) (h : r ∈ argRefs) : P4 V (Proc.devRef .tc r) = V (Proc.devRef .tc r) := by
  refine Eq.trans ?_ (P2_arg V r h)
  fin_cases h <;> (rw [P4, P3, keep3 _ _ (by decide), keep2 _ _ (by decide)])

/-- An argument keeps its contents up to the loop's entry. -/
theorem P5_arg (r : Ref sig .tc) (h : r ∈ argRefs) : P5 V (Proc.devRef .tc r) = V (Proc.devRef .tc r) := by
  refine Eq.trans ?_ (P4_arg V r h)
  fin_cases h <;> (rw [P5, keep4 _ _ (by decide)])

/-- The arguments read before the third stretch are the arguments. -/
theorem inV_P2 : inV (P2 V) = inV V := by
  unfold inV
  rw [P2_arg V main_arg0 (by decide), P2_arg V main_arg1 (by decide), P2_arg V main_arg2 (by decide), P2_arg V main_arg3 (by decide),
    P2_arg V main_arg4 (by decide), P2_arg V main_arg5 (by decide), P2_arg V main_arg6 (by decide), P2_arg V main_arg7 (by decide),
    P2_arg V main_arg8 (by decide), P2_arg V main_arg9 (by decide), P2_arg V main_arg10 (by decide), P2_arg V main_arg11 (by decide),
    P2_arg V main_arg12 (by decide), P2_arg V main_arg13 (by decide), P2_arg V main_arg14 (by decide)]

/-- The padding word after the first stretch. -/
theorem P1_c : (P1 V (Proc.devRef .tc main_c) : _ → BitVec 32) = fun _ => 0#32 := by
  after_reads_simp
  try rfl

/-- The padded second layer. -/
theorem P2_hp (b : Fin 16) (s : Fin 514) (j : Fin 256) : (P2 V (Proc.devRef .tc main_v14) : _ → EReal) (ix3 b s j) = Model.hp (inV V) b s j :=
  s1_hp (P1 V) _ (s0_h2 V) (P1_c V) b s j

/-- The features. -/
theorem P3_feats (b : Fin 16) (t : Fin 512) (o : Fin 256) : (P3 V (Proc.devRef .tc main_v34) : _ → EReal) (ix3 b t o) = Model.feats (inV V) b t o := by
  have h := s2_v34 (P2 V) (Model.hp (inV V)) (P2_hp V) b t o
  rw [inV_P2] at h
  exact h

/-- The flat row number of a row of a batch. -/
abbrev fr (b : Fin 16) (t : Fin 512) : Fin 8192 := ⟨b * 512 + t, by omega⟩

/-- The distances. -/
theorem P3_dist (b : Fin 16) (t : Fin 512) (n : Fin 1024) :
    (P3 V (Proc.devRef .tc main_v49) : _ → EReal) (ix2 (fr b t) n) = Model.dist (Model.feats (inV V) b t) ((inV V).cb n) := by
  refine (s2_v49 (P2 V) (fr b t) n).trans ?_
  rw [inV_P2]
  refine congrArg (fun f => Model.dist f _) (funext fun j => ?_)
  refine Eq.trans ?_ (P3_feats V b t j)
  have e1 : (⟨((fr b t : Fin 8192) : ℕ) / 512, by have := (fr b t).isLt; omega⟩ : Fin 16) = b := Fin.ext (by show (b * 512 + t : ℕ) / 512 = b; omega)
  have e2 : (⟨((fr b t : Fin 8192) : ℕ) % 512, by omega⟩ : Fin 512) = t := Fin.ext (by show (b * 512 + t : ℕ) % 512 = t; omega)
  rw [e1, e2]

/-- The nearest code's number. -/
theorem P4_idx (b : Fin 16) (t : Fin 512) : (P4 V (Proc.devRef .tc main_v50) : _ → BitVec 32) (ix1 (fr b t)) = BitVec.ofNat 32 (Model.idx (inV V) b t) :=
  s3_v50 (P3 V) (fr b t) _ (P3_dist V b t)

/-- The quantised rows. -/
theorem P5_q (b : Fin 16) (t : Fin 512) (j : Fin 256) : (P5 V (Proc.devRef .tc main_v51) : _ → EReal) (ix2 (fr b t) j) = Model.q (inV V) b t j := by
  refine (s4_v51 (P4 V) (fr b t) j _ (P4_idx V b t)).trans ?_
  rw [P4_arg V main_arg7 (by decide)]
  rfl

/-- The features are untouched up to the loop's entry. -/
theorem P5_feats (b : Fin 16) (t : Fin 512) (o : Fin 256) : (P5 V (Proc.devRef .tc main_v34) : _ → EReal) (ix3 b t o) = Model.feats (inV V) b t o := by
  rw [P5, keep4 _ _ (by decide), P4, keep3 _ _ (by decide)]
  exact P3_feats V b t o

/-- The nearest codes' numbers are untouched by the table reading. -/
theorem P5_idx (b : Fin 16) (t : Fin 512) : (P5 V (Proc.devRef .tc main_v50) : _ → BitVec 32) (ix1 (fr b t)) = BitVec.ofNat 32 (Model.idx (inV V) b t) := by
  rw [P5, keep4 _ _ (by decide)]
  exact P4_idx V b t

/-- The quantised rows as a batch. -/
theorem P6_q (b : Fin 16) (t : Fin 512) (j : Fin 256) : (P6 V (Proc.devRef .tc main_v52) : _ → EReal) (ix3 b t j) = Model.q (inV V) b t j := by
  refine Eq.trans ?_ (P5_q V b t j)
  rw [P6]
  generalize P5 V = W
  after_reads_at

/-- The first result: the nearest codes' numbers. -/
theorem P6_v53 (b : Fin 16) (t : Fin 512) : (P6 V (Proc.devRef .tc main_v53) : _ → BitVec 32) (ix2 b t) = BitVec.ofNat 32 (Model.idx (inV V) b t) := by
  refine Eq.trans ?_ (P5_idx V b t)
  rw [P6]
  generalize P5 V = W
  after_reads_at

/-- The loop's input sequence. -/
theorem P6_seq (s : Fin 511) (b : Fin 16) (j : Fin 256) :
    (P6 V (Proc.devRef .tc main_v66_0) : _ → EReal) (ix3 s b j) = Model.q (inV V) b ⟨s, by omega⟩ j := by
  refine Eq.trans ?_ (P5_q V b ⟨s, by omega⟩ j)
  rw [P6]
  generalize P5 V = W
  after_reads_at
  simp only [id_eq]
  pointwise

/-- The loop's first hidden state. -/
theorem P6_h (b : Fin 16) (j : Fin 256) : (P6 V (Proc.devRef .tc main_v66_6) : _ → EReal) (ix2 b j) = (0 : EReal) := by
  rw [P6]
  generalize P5 V = W
  rw [← Ideal.ofBits_zero_f32]
  after_reads_at
  simp only [id_eq]
  pointwise

/-- The loop's weights at its entry. -/
theorem P6_w1 : P6 V (Proc.devRef .tc main_v66_1) = V (Proc.devRef .tc main_arg8) := by
  refine Eq.trans ?_ (P5_arg V main_arg8 (by decide))
  rw [P6]
  generalize P5 V = W
  after_reads_simp
  try rfl

/-- The loop's first bias at its entry. -/
theorem P6_w2 : P6 V (Proc.devRef .tc main_v66_2) = V (Proc.devRef .tc main_arg10) := by
  refine Eq.trans ?_ (P5_arg V main_arg10 (by decide))
  rw [P6]
  generalize P5 V = W
  after_reads_simp
  try rfl

/-- The loop's recurrent weights at its entry. -/
theorem P6_w3 : P6 V (Proc.devRef .tc main_v66_3) = V (Proc.devRef .tc main_arg9) := by
  refine Eq.trans ?_ (P5_arg V main_arg9 (by decide))
  rw [P6]
  generalize P5 V = W
  after_reads_simp
  try rfl

/-- The loop's second bias at its entry. -/
theorem P6_w4 : P6 V (Proc.devRef .tc main_v66_4) = V (Proc.devRef .tc main_arg11) := by
  refine Eq.trans ?_ (P5_arg V main_arg11 (by decide))
  rw [P6]
  generalize P5 V = W
  after_reads_simp
  try rfl

/-- A square does not depend on the order of its difference. -/
theorem sq_symm (x y : EReal) : (y - x) * (y - x) = (x - y) * (x - y) := by
  induction x <;> induction y <;> try rfl
  · rename_i x y
    rw [← EReal.coe_sub, ← EReal.coe_sub, ← EReal.coe_mul, ← EReal.coe_mul]
    exact congrArg _ (by ring)

/-- A batch of rows summed from zero, in order. -/
theorem total3 (v : FVec Ideal S16x512x256 .f32) (i : S_.Idx) :
    (Host.reduceAdd v (constant (F := Ideal) S_ .f32 0x00000000#32) reducesTo_S16x512x256_S_d0_1_2 h_S_ : S_.Idx → EReal) i
      = ∑ b : Fin 16, ∑ t : Fin 512, ∑ j : Fin 256, v (ix3 b t j) := by
  refine (Ideal.hostReduceAdd_total _ (fun b => b.elim0) _ _ _).trans ?_
  rw [sum_idx3]
  exact (congrArg (fun e : EReal => e + _) Ideal.ofBits_zero_f32).trans (zero_add _)

/-- The commitment loss. -/
theorem P6_v57 (i : S_.Idx) : (P6 V (Proc.devRef .tc main_v57) : _ → EReal) i = Model.commit (inV V) := by
  have e : P6 V (Proc.devRef .tc main_v57) = Host.divf (F := Ideal) (Host.reduceAdd (F := Ideal) (mulf (subf (P5 V (Proc.devRef .tc main_v34)) (P6 V (Proc.devRef .tc main_v52)))
        (subf (P5 V (Proc.devRef .tc main_v34)) (P6 V (Proc.devRef .tc main_v52))))
      (constant (F := Ideal) S_ .f32 0x00000000#32) reducesTo_S16x512x256_S_d0_1_2 h_S_) (constant (F := Ideal) S_ .f32 0x4A000000#32) := by
    rw [P6]
    generalize P5 V = W
    after_reads_simp
    try rfl
  rw [e]
  refine congrArg (fun s : EReal => Ideal.div s (Ideal.ofBits .f32 0x4A000000#32)) ((total3 _ i).trans ?_)
  refine Finset.sum_congr rfl fun b _ => Finset.sum_congr rfl fun t _ => Finset.sum_congr rfl fun j _ => ?_
  rw [← P5_feats V b t j, ← P6_q V b t j]
  rfl

/-- The codebook loss, the same number. -/
theorem P6_v61 (i : S_.Idx) : (P6 V (Proc.devRef .tc main_v61) : _ → EReal) i = Model.commit (inV V) := by
  have e : P6 V (Proc.devRef .tc main_v61) = Host.divf (F := Ideal) (Host.reduceAdd (F := Ideal) (mulf (subf (P6 V (Proc.devRef .tc main_v52)) (P5 V (Proc.devRef .tc main_v34)))
        (subf (P6 V (Proc.devRef .tc main_v52)) (P5 V (Proc.devRef .tc main_v34))))
      (constant (F := Ideal) S_ .f32 0x00000000#32) reducesTo_S16x512x256_S_d0_1_2 h_S_) (constant (F := Ideal) S_ .f32 0x4A000000#32) := by
    rw [P6]
    generalize P5 V = W
    after_reads_simp
    try rfl
  rw [e]
  refine congrArg (fun s : EReal => Ideal.div s (Ideal.ofBits .f32 0x4A000000#32)) ((total3 _ i).trans ?_)
  refine Finset.sum_congr rfl fun b _ => Finset.sum_congr rfl fun t _ => Finset.sum_congr rfl fun j _ => ?_
  refine Eq.trans ?_ (sq_symm _ _)
  rw [← P5_feats V b t j, ← P6_q V b t j]
  rfl

end

end Cert.Proof.Ref
-- ==== Proof.RLoop.lean ====
module

public import proofs.«01_k».proof.Proof.RPre

@[expose] public section

set_option maxRecDepth 16384

/-! The reference's recurrent loop: one trip, and the invariant over the trips. -/

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo
open Cert.Proof.Model (In)

section

variable (X : Valuation τ sig (Elt Ideal))

/-- The counter's word, read signed. -/
theorem ctr_toInt {k : ℕ} (hk : k < 511) : (Scf.iv 0#32 1#32 k).toInt = (k : ℤ) := by
  have e : Scf.iv 0#32 1#32 k = BitVec.ofNat 32 k := by
    unfold Scf.iv
    rw [BitVec.zero_add, BitVec.mul_one]
  rw [e]
  exact toInt_small (by omega)

/-- The starts of a trip's dynamic slice. -/
abbrev st : Fin 3 → ℤ := fun k => BitVec.toInt
  ((![X (Proc.devRef .tc main_v66_5), constantI S_ 32 0#32, constantI S_ 32 0#32] : Fin 3 → (⟨S_, .i32⟩ : BufTy).Contents (Elt Ideal)) k (Shape.Idx.first h_S_))

/-- The first start is the trip. -/
theorem cs0 {k : ℕ} (hk : k < 511) (hc : (X (Proc.devRef .tc main_v66_5) : _ → BitVec 32) = fun _ => Scf.iv 0#32 1#32 k) :
    Host.clampedStart S511x16x256 S1x16x256 rfl (st X) 0 = k :=
  Host.clampedStart_of_le _ _ _ k ((congrArg BitVec.toInt (congrFun hc _)).trans (ctr_toInt hk)) (show k + 1 ≤ 511 by omega)

/-- The second start is zero. -/
theorem cs1 : Host.clampedStart S511x16x256 S1x16x256 rfl (st X) 1 = 0 :=
  Host.clampedStart_of_le _ _ _ 0 rfl (show 0 + 16 ≤ 16 by omega)

/-- The third start is zero. -/
theorem cs2 : Host.clampedStart S511x16x256 S1x16x256 rfl (st X) 2 = 0 :=
  Host.clampedStart_of_le _ _ _ 0 rfl (show 0 + 256 ≤ 256 by omega)

/-- The first linear map of a trip, at an index. -/
theorem v115_at (k : ℕ) (hk : k < 511) (hc : (X (Proc.devRef .tc main_v66_5) : _ → BitVec 32) = fun _ => Scf.iv 0#32 1#32 k)
    (qq : Fin 511 → Fin 16 → Fin 256 → EReal) (h0 : ∀ s b j, (X (Proc.devRef .tc main_v66_0) : _ → EReal) (ix3 s b j) = qq s b j)
    (w : Fin 768 → Fin 256 → EReal) (h1 : ∀ g l, (X (Proc.devRef .tc main_v66_1) : _ → EReal) (ix2 g l) = w g l)
    (bi : Fin 768 → EReal) (h2 : ∀ g, (X (Proc.devRef .tc main_v66_2) : _ → EReal) (ix1 g) = bi g)
    (b : Fin 16) (g : Fin 768) :
    (res_main_while0b_v115 X : _ → EReal) (ix2 b g) = ∑ l, qq ⟨k, hk⟩ b l * w g l + bi g := by
  pointwise [res_main_while0b_v115]
  have e : ∀ l : Fin 256, (X (Proc.devRef .tc main_v66_0) : S511x16x256.Idx → EReal)
      (ix3 ⟨Host.clampedStart S511x16x256 S1x16x256 rfl (st X) 0, by rw [cs0 X hk hc]; exact hk⟩
        ⟨Host.clampedStart S511x16x256 S1x16x256 rfl (st X) 1 + b, by rw [cs1]; omega⟩
        ⟨Host.clampedStart S511x16x256 S1x16x256 rfl (st X) 2 + l, by rw [cs2]; omega⟩) = qq ⟨k, hk⟩ b l := fun l => by
    refine Eq.trans ?_ (h0 ⟨k, hk⟩ b l)
    have e0 := cs0 X hk hc
    have e1 := cs1 X
    have e2 := cs2 X
    congr 2
    · exact Fin.ext e0
    · exact Fin.ext (by show _ + (b : ℕ) = b; rw [e1, zero_add])
    · exact Fin.ext (by show _ + (l : ℕ) = l; rw [e2, zero_add])
  simp only [h1, h2]
  exact congrArg (fun z : EReal => z + bi g) (Finset.sum_congr rfl fun l _ => congrArg (fun z : EReal => z * w g l) (e l))

/-- The recurrent linear map of a trip, at an index. -/
theorem v120_at (h : Fin 16 → Fin 256 → EReal) (h6 : ∀ b j, (X (Proc.devRef .tc main_v66_6) : _ → EReal) (ix2 b j) = h b j)
    (w : Fin 768 → Fin 256 → EReal) (h3 : ∀ g l, (X (Proc.devRef .tc main_v66_3) : _ → EReal) (ix2 g l) = w g l)
    (bi : Fin 768 → EReal) (h4 : ∀ g, (X (Proc.devRef .tc main_v66_4) : _ → EReal) (ix1 g) = bi g)
    (b : Fin 16) (g : Fin 768) :
    (res_main_while0b_v120 X : _ → EReal) (ix2 b g) = ∑ l, h b l * w g l + bi g := by
  pointwise [res_main_while0b_v120]
  simp only [h6, h3, h4]

/-- The new hidden state of a trip, at an index. -/
theorem v148_at (i u : Fin 768 → EReal) (h : Fin 256 → EReal) (b : Fin 16)
    (hi : ∀ g, (res_main_while0b_v115 X : _ → EReal) (ix2 b g) = i g)
    (hu : ∀ g, (res_main_while0b_v120 X : _ → EReal) (ix2 b g) = u g)
    (hh : ∀ j, (X (Proc.devRef .tc main_v66_6) : _ → EReal) (ix2 b j) = h j) (j : Fin 256) :
    (res_main_while0b_v148 X : _ → EReal) (ix2 b j) = Model.cell i u h j := by
  unfold Model.cell Ideal.logistic
  rw [← Ideal.ofBits_one_f32]
  pointwise [res_main_while0b_v148, res_main_while0b_v140]
  simp only [hi, hu, hh]

/-- The outputs after a trip, at an index. -/
theorem ys_at (k : ℕ) (hk : k < 511) (hc : (X (Proc.devRef .tc main_v66_5) : _ → BitVec 32) = fun _ => Scf.iv 0#32 1#32 k)
    (s : Fin 511) (b : Fin 16) (j : Fin 256) :
    (step_main_v66_7 X : _ → EReal) (ix3 s b j)
      = if (s : ℕ) = k then (res_main_while0b_v148 X : _ → EReal) (ix2 b j) else (X (Proc.devRef .tc main_v66_7) : _ → EReal) (ix3 s b j) := by
  unfold step_main_v66_7
  simp only [id_eq]
  rw [Host.dynamicUpdateSlice_apply]
  have e0 := cs0 X hk hc
  have e1 := cs1 X
  have e2 := cs2 X
  by_cases hs : (s : ℕ) = k
  · rw [if_pos hs, dif_pos]
    · pointwise
      exact congrArg₂ (fun u v => (res_main_while0b_v148 X : S16x256.Idx → EReal) (ix2 u v))
        (Fin.ext (by show (b : ℕ) - Host.clampedStart S511x16x256 S1x16x256 rfl (st X) 1 = b; rw [e1, Nat.sub_zero]))
        (Fin.ext (by show (j : ℕ) - Host.clampedStart S511x16x256 S1x16x256 rfl (st X) 2 = j; rw [e2, Nat.sub_zero]))
    · intro a
      match a with
      | ⟨0, _⟩ =>
        show Host.clampedStart S511x16x256 S1x16x256 rfl (st X) 0 ≤ (s : ℕ) ∧ (s : ℕ) < Host.clampedStart S511x16x256 S1x16x256 rfl (st X) 0 + 1
        omega
      | ⟨1, _⟩ =>
        show Host.clampedStart S511x16x256 S1x16x256 rfl (st X) 1 ≤ (b : ℕ) ∧ (b : ℕ) < Host.clampedStart S511x16x256 S1x16x256 rfl (st X) 1 + 16
        omega
      | ⟨2, _⟩ =>
        show Host.clampedStart S511x16x256 S1x16x256 rfl (st X) 2 ≤ (j : ℕ) ∧ (j : ℕ) < Host.clampedStart S511x16x256 S1x16x256 rfl (st X) 2 + 256
        omega
  · rw [if_neg hs, dif_neg]
    intro h
    have := h 0
    change Host.clampedStart S511x16x256 S1x16x256 rfl (st X) 0 ≤ (s : ℕ) ∧ (s : ℕ) < Host.clampedStart S511x16x256 S1x16x256 rfl (st X) 0 + 1 at this
    omega

end

/-- Where the second bias of the candidate gate is zero, the two biases may be added to the first linear map. -/
theorem cell_bias (A U bi bh : Fin 768 → EReal) (h : Fin 256 → EReal) (j : Fin 256) (hz : bh ⟨512 + j, by omega⟩ = 0) :
    Model.cell (fun g => A g + bi g) (fun g => U g + bh g) h j = Model.cell (fun g => A g + (bi g + bh g)) U h j := by
  have hg : ∀ g, A g + bi g + (U g + bh g) = A g + (bi g + bh g) + U g := fun g => by ac_rfl
  unfold Model.cell
  simp only [hg, hz, add_zero]

section

variable (m : (ℓ : Loc nD τ sig) → Buf (Elt Ideal) ℓ) (c : Dev nD)

/-- The contents of a device's buffers when the program starts. -/
abbrev V0 : Valuation τ sig (Elt Ideal) := fun b => m (c, b)

/-- The loop's entry is the sixth stretch's end. -/
theorem entry_eq : entryContents preI m c = P6 (V0 m c) := rfl

/-- The contents after one more trip. -/
theorem atK_succ (k : ℕ) : atK m (k + 1) c = afterL bodyI (after condOps (atK m k c)) := rfl

/-- The input sequence and the weights are the same at every trip. -/
theorem carried : ∀ k, atK m k c (Proc.devRef .tc main_v66_0) = P6 (V0 m c) (Proc.devRef .tc main_v66_0)
    ∧ atK m k c (Proc.devRef .tc main_v66_1) = P6 (V0 m c) (Proc.devRef .tc main_v66_1)
    ∧ atK m k c (Proc.devRef .tc main_v66_2) = P6 (V0 m c) (Proc.devRef .tc main_v66_2)
    ∧ atK m k c (Proc.devRef .tc main_v66_3) = P6 (V0 m c) (Proc.devRef .tc main_v66_3)
    ∧ atK m k c (Proc.devRef .tc main_v66_4) = P6 (V0 m c) (Proc.devRef .tc main_v66_4)
  | 0 => ⟨rfl, rfl, rfl, rfl, rfl⟩
  | k + 1 => by
    obtain ⟨h0, h1, h2, h3, h4⟩ := carried k
    rw [atK_succ]
    exact ⟨(trip_main_v66_0 _).trans ((cond_keeps _ _ (by decide)).trans h0), (trip_main_v66_1 _).trans ((cond_keeps _ _ (by decide)).trans h1),
      (trip_main_v66_2 _).trans ((cond_keeps _ _ (by decide)).trans h2), (trip_main_v66_3 _).trans ((cond_keeps _ _ (by decide)).trans h3),
      (trip_main_v66_4 _).trans ((cond_keeps _ _ (by decide)).trans h4)⟩

/-- The loop's state before a trip: the hidden state, and the outputs of the trips so far. -/
theorem inv (hz : ∀ j : Fin 256, (inV (V0 m c)).bhh ⟨512 + j, by omega⟩ = 0) : ∀ k, k ≤ 511 →
    (∀ (b : Fin 16) (j : Fin 256), (atK m k c (Proc.devRef .tc main_v66_6) : _ → EReal) (ix2 b j) = Model.hid (inV (V0 m c)) b k j)
    ∧ (∀ (s : Fin 511) (b : Fin 16) (j : Fin 256), (s : ℕ) < k →
        (atK m k c (Proc.devRef .tc main_v66_7) : _ → EReal) (ix3 s b j) = Model.hid (inV (V0 m c)) b (s + 1) j)
  | 0, _ => ⟨P6_h (V0 m c), fun s b j h => absurd h (Nat.not_lt_zero _)⟩
  | k + 1, hk => by
    obtain ⟨ih6, ih7⟩ := inv hz k (by omega)
    obtain ⟨h0, h1, h2, h3, h4⟩ := carried m c k
    set X := after condOps (atK m k c) with hX
    have hk' : k < 511 := hk
    have hc : (X (Proc.devRef .tc main_v66_5) : _ → BitVec 32) = fun _ => Scf.iv 0#32 1#32 k :=
      (cond_keeps _ _ (by decide)).trans (atK_ctr m c k)
    have h6 : ∀ (b : Fin 16) (j : Fin 256), (X (Proc.devRef .tc main_v66_6) : _ → EReal) (ix2 b j) = Model.hid (inV (V0 m c)) b k j :=
      fun b j => (congrFun (cond_keeps (atK m k c) main_v66_6 (by decide)) _).trans (ih6 b j)
    have new : ∀ (b : Fin 16) (j : Fin 256), (res_main_while0b_v148 X : _ → EReal) (ix2 b j) = Model.hid (inV (V0 m c)) b (k + 1) j := by
      intro b j
      have hi := v115_at X k hk' hc (fun s b j => Model.q (inV (V0 m c)) b ⟨s, by omega⟩ j)
        (fun s b j => (congrFun ((cond_keeps (atK m k c) main_v66_0 (by decide)).trans h0) _).trans (P6_seq (V0 m c) s b j))
        (inV (V0 m c)).wih (fun g l => congrFun ((cond_keeps (atK m k c) main_v66_1 (by decide)).trans (h1.trans (P6_w1 (V0 m c)))) _)
        (inV (V0 m c)).bih (fun g => congrFun ((cond_keeps (atK m k c) main_v66_2 (by decide)).trans (h2.trans (P6_w2 (V0 m c)))) _) b
      have hu := v120_at X (fun b => Model.hid (inV (V0 m c)) b k) h6
        (inV (V0 m c)).whh (fun g l => congrFun ((cond_keeps (atK m k c) main_v66_3 (by decide)).trans (h3.trans (P6_w3 (V0 m c)))) _)
        (inV (V0 m c)).bhh (fun g => congrFun ((cond_keeps (atK m k c) main_v66_4 (by decide)).trans (h4.trans (P6_w4 (V0 m c)))) _) b
      refine (v148_at X _ _ _ b hi hu (h6 b) j).trans ?_
      refine (cell_bias _ _ _ _ _ j (hz j)).trans ?_
      have hrow : Model.row k = (⟨k, by omega⟩ : Fin 512) := Fin.ext (Nat.mod_eq_of_lt (by omega))
      show _ = Model.cell (Model.gi (inV (V0 m c)) b (Model.row k)) _ _ j
      rw [hrow]
      rfl
    rw [atK_succ]
    refine ⟨fun b j => (congrFun (trip_main_v66_6 X) _).trans (new b j), fun s b j hs => ?_⟩
    refine (congrFun (trip_main_v66_7 X) _).trans ((ys_at X k hk' hc s b j).trans ?_)
    by_cases e : (s : ℕ) = k
    · rw [if_pos e, e]
      exact new b j
    · rw [if_neg e]
      exact (congrFun (cond_keeps (atK m k c) main_v66_7 (by decide)) _).trans (ih7 s b j (by omega))

/-- The outputs after the loop. -/
theorem U6_ys (hz : ∀ j : Fin 256, (inV (V0 m c)).bhh ⟨512 + j, by omega⟩ = 0) (s : Fin 511) (b : Fin 16) (j : Fin 256) :
    (U6 m c (Proc.devRef .tc main_v66_7) : _ → EReal) (ix3 s b j) = Model.hid (inV (V0 m c)) b (s + 1) j :=
  (congrFun (cond_keeps (atK m 511 c) main_v66_7 (by decide)) _).trans ((inv m c hz 511 le_rfl).2 s b j s.isLt)

end

end Cert.Proof.Ref
-- ==== Proof.RTail.lean ====
module

public import proofs.«01_k».proof.Proof.RLoop

@[expose] public section

set_option maxRecDepth 16384

/-! The reference after its loop: the other losses and the words' numbers. -/

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo
open Cert.Proof.Model (In)

/-- A sum over the flat numbers of a batch's words is the sum over the batch and the words. -/
theorem sum_words (f : Fin 4096 → EReal) : ∑ r, f r = ∑ b : Fin 16, ∑ w : Fin 256, f ⟨b * 256 + w, by omega⟩ := by
  rw [← Fintype.sum_prod_type' (fun (b : Fin 16) (w : Fin 256) => f ⟨b * 256 + w, by omega⟩)]
  refine (Equiv.sum_comp (finProdFinEquiv (m := 16) (n := 256)) (f : Fin (16 * 256) → EReal)).symm.trans ?_
  refine Finset.sum_congr rfl fun p _ => congrArg f (Fin.ext ?_)
  show (p.2 + 256 * p.1 : ℕ) = p.1 * 256 + p.2
  omega

section

variable (W : Valuation τ sig (Elt Ideal))

/-- A batch of shorter rows summed from zero, in order. -/
theorem total3' (v : FVec Ideal S16x511x256 .f32) (i : S_.Idx) :
    (Host.reduceAdd v (constant (F := Ideal) S_ .f32 0x00000000#32) reducesTo_S16x511x256_S_d0_1_2 h_S_ : S_.Idx → EReal) i
      = ∑ b : Fin 16, ∑ t : Fin 511, ∑ j : Fin 256, v (ix3 b t j) := by
  refine (Ideal.hostReduceAdd_total _ (fun b => b.elim0) _ _ _).trans ?_
  rw [sum_idx3]
  exact (congrArg (fun e : EReal => e + _) Ideal.ofBits_zero_f32).trans (zero_add _)

/-- A table of rows summed from zero, in order. -/
theorem total2 (v : FVec Ideal S4096x256 .f32) (i : S_.Idx) :
    (Host.reduceAdd v (constant (F := Ideal) S_ .f32 0x00000000#32) reducesTo_S4096x256_S_d0_1 h_S_ : S_.Idx → EReal) i
      = ∑ r : Fin 4096, ∑ j : Fin 256, v (ix2 r j) := by
  refine (Ideal.hostReduceAdd_total _ (fun b => b.elim0) _ _ _).trans ?_
  rw [sum_idx2]
  exact (congrArg (fun e : EReal => e + _) Ideal.ofBits_zero_f32).trans (zero_add _)

/-- The predictions, batch first. -/
theorem s6_v67 (b : Fin 16) (t : Fin 511) (j : Fin 256) :
    (after hostOps0_6 W (Proc.devRef .tc main_v67) : _ → EReal) (ix3 b t j) = (W (Proc.devRef .tc main_v66_7) : _ → EReal) (ix3 t b j) := by
  after_reads_at

/-- The features after the first. -/
theorem s6_v68 (b : Fin 16) (t : Fin 511) (j : Fin 256) :
    (after hostOps0_6 W (Proc.devRef .tc main_v68) : _ → EReal) (ix3 b t j) = (W (Proc.devRef .tc main_v34) : _ → EReal) (ix3 b ⟨1 + t, by omega⟩ j) := by
  after_reads_at

/-- The context loss. -/
theorem s6_v72 (y f : Fin 16 → Fin 511 → Fin 256 → EReal)
    (hy : ∀ b t j, (W (Proc.devRef .tc main_v66_7) : _ → EReal) (ix3 t b j) = y b t j)
    (hf : ∀ b (t : Fin 511) j, (W (Proc.devRef .tc main_v34) : _ → EReal) (ix3 b ⟨1 + t, by omega⟩ j) = f b t j) (i : S_.Idx) :
    (after hostOps0_6 W (Proc.devRef .tc main_v72) : _ → EReal) i
      = Ideal.div (∑ b, ∑ t, ∑ j, (y b t j - f b t j) * (y b t j - f b t j)) (Ideal.ofBits .f32 0x49FF8000#32) := by
  have e : after hostOps0_6 W (Proc.devRef .tc main_v72) = Host.divf (F := Ideal) (Host.reduceAdd (F := Ideal)
      (mulf (subf (after hostOps0_6 W (Proc.devRef .tc main_v67)) (after hostOps0_6 W (Proc.devRef .tc main_v68)))
        (subf (after hostOps0_6 W (Proc.devRef .tc main_v67)) (after hostOps0_6 W (Proc.devRef .tc main_v68))))
      (constant (F := Ideal) S_ .f32 0x00000000#32) reducesTo_S16x511x256_S_d0_1_2 h_S_) (constant (F := Ideal) S_ .f32 0x49FF8000#32) := by
    after_reads_simp
    try rfl
  rw [e]
  refine congrArg (fun s : EReal => Ideal.div s (Ideal.ofBits .f32 0x49FF8000#32)) ((total3' _ i).trans ?_)
  refine Finset.sum_congr rfl fun b _ => Finset.sum_congr rfl fun t _ => Finset.sum_congr rfl fun j _ => ?_
  rw [← hy b t j, ← hf b t j, ← s6_v67 W b t j, ← s6_v68 W b t j]
  rfl

/-- The quantisation loss. -/
theorem s6_v76 (i : S_.Idx) (x y z : EReal) (hx : (W (Proc.devRef .tc main_v57) : _ → EReal) i = x)
    (hy : (W (Proc.devRef .tc main_v61) : _ → EReal) i = y)
    (hz : (after hostOps0_6 W (Proc.devRef .tc main_v72) : _ → EReal) i = z) :
    (after hostOps0_6 W (Proc.devRef .tc main_v76) : _ → EReal) i = x + Ideal.ofBits .f32 0x3E800000#32 * y + Ideal.ofBits .f32 0x3DCCCCCD#32 * z := by
  have e : after hostOps0_6 W (Proc.devRef .tc main_v76) = addf (F := Ideal) (addf (F := Ideal) (W (Proc.devRef .tc main_v57))
      (mulf (F := Ideal) (constant (F := Ideal) S_ .f32 0x3E800000#32) (W (Proc.devRef .tc main_v61))))
      (mulf (F := Ideal) (constant (F := Ideal) S_ .f32 0x3DCCCCCD#32) (after hostOps0_6 W (Proc.devRef .tc main_v72))) := by
    after_reads_simp
    try rfl
  rw [e, ← hx, ← hy, ← hz]
  rfl

/-- The flat row number of a word of a batch. -/
abbrev fw (b : Fin 16) (w : Fin 256) : Fin 4096 := ⟨b * 256 + w, by omega⟩

/-- The words' means. -/
theorem s6_v81 (q : Fin 16 → Fin 512 → Fin 256 → EReal) (hq : ∀ b t j, (W (Proc.devRef .tc main_v52) : _ → EReal) (ix3 b t j) = q b t j)
    (b : Fin 16) (w : Fin 256) (j : Fin 256) :
    (after hostOps0_6 W (Proc.devRef .tc main_v81) : _ → EReal) (ix2 (fw b w) j)
      = Ideal.div (q b ⟨2 * w, by omega⟩ j + q b ⟨2 * w + 1, by omega⟩ j) Model.two := by
  after_reads_at
  refine congrArg (fun s : EReal => Ideal.div s Model.two) ((Fin.sum_univ_two _).trans ?_)
  refine congrArg₂ (fun x y : EReal => x + y) (Eq.trans ?_ (hq b ⟨2 * w, by omega⟩ j)) (Eq.trans ?_ (hq b ⟨2 * w + 1, by omega⟩ j))
  · exact congrArg₂ (fun u v => (W (Proc.devRef .tc main_v52) : S16x512x256.Idx → EReal) (ix3 u v j))
      (Fin.ext (by show (b * 256 + w : ℕ) / 256 = b; omega)) (Fin.ext (by show (b * 256 + w : ℕ) % 256 * 2 + 0 = 2 * w; omega))
  · exact congrArg₂ (fun u v => (W (Proc.devRef .tc main_v52) : S16x512x256.Idx → EReal) (ix3 u v j))
      (Fin.ext (by show (b * 256 + w : ℕ) / 256 = b; omega)) (Fin.ext (by show (b * 256 + w : ℕ) % 256 * 2 + 1 = 2 * w + 1; omega))

/-- The words' distances. -/
theorem s6_v95 (r : Fin 4096) (n : Fin 128) :
    (after hostOps0_6 W (Proc.devRef .tc main_v95) : _ → EReal) (ix2 r n)
      = Model.dist (fun j => (after hostOps0_6 W (Proc.devRef .tc main_v81) : _ → EReal) (ix2 r j)) ((inV W).wcb n) := by
  unfold inV Model.dist
  after_reads_at
  skip

/-- A word's projection. -/
theorem s9_v102 (p : Fin 4096 → Fin 256 → EReal) (hp : ∀ r j, (W (Proc.devRef .tc main_v97) : _ → EReal) (ix2 r j) = p r j) (r : Fin 4096) (j : Fin 256) :
    (after hostOps0_9 W (Proc.devRef .tc main_v102) : _ → EReal) (ix2 r j) = ∑ k, p r k * (inV W).aw j k + (inV W).ab j := by
  unfold inV
  after_reads_at
  simp only [hp]

/-- The alignment loss. -/
theorem s9_v106 (p : Fin 4096 → Fin 256 → EReal) (hp : ∀ r j, (W (Proc.devRef .tc main_v97) : _ → EReal) (ix2 r j) = p r j) (i : S_.Idx) :
    (after hostOps0_9 W (Proc.devRef .tc main_v106) : _ → EReal) i
      = Ideal.div (∑ r, ∑ j, (∑ k, p r k * (inV W).aw j k + (inV W).ab j - p r j) * (∑ k, p r k * (inV W).aw j k + (inV W).ab j - p r j))
          (Ideal.ofBits .f32 0x49800000#32) := by
  have e : after hostOps0_9 W (Proc.devRef .tc main_v106) = Host.divf (F := Ideal) (Host.reduceAdd (F := Ideal)
      (mulf (subf (after hostOps0_9 W (Proc.devRef .tc main_v102)) (W (Proc.devRef .tc main_v97)))
        (subf (after hostOps0_9 W (Proc.devRef .tc main_v102)) (W (Proc.devRef .tc main_v97))))
      (constant (F := Ideal) S_ .f32 0x00000000#32) reducesTo_S4096x256_S_d0_1 h_S_) (constant (F := Ideal) S_ .f32 0x49800000#32) := by
    after_reads_simp
    try rfl
  rw [e]
  refine congrArg (fun s : EReal => Ideal.div s (Ideal.ofBits .f32 0x49800000#32)) ((total2 _ i).trans ?_)
  refine Finset.sum_congr rfl fun r _ => Finset.sum_congr rfl fun j _ => ?_
  rw [← s9_v102 W p hp r j, ← hp r j]
  rfl

/-- The total loss. -/
theorem s9_v108 (i : S_.Idx) (x y : EReal) (hx : (W (Proc.devRef .tc main_v76) : _ → EReal) i = x)
    (hy : (after hostOps0_9 W (Proc.devRef .tc main_v106) : _ → EReal) i = y) :
    (after hostOps0_9 W (Proc.devRef .tc main_v108) : _ → EReal) i = x + y * Ideal.ofBits .f32 0x3DCCCCCD#32 := by
  have e : after hostOps0_9 W (Proc.devRef .tc main_v108) = addf (F := Ideal) (W (Proc.devRef .tc main_v76))
      (mulf (F := Ideal) (after hostOps0_9 W (Proc.devRef .tc main_v106)) (constant (F := Ideal) S_ .f32 0x3DCCCCCD#32)) := by
    after_reads_simp
    try rfl
  rw [e, ← hx, ← hy]
  rfl

/-- The words' numbers as a batch. -/
theorem s9_v109 (b : Fin 16) (w : Fin 256) :
    (after hostOps0_9 W (Proc.devRef .tc main_v109) : _ → BitVec 32) (ix2 b w) = (W (Proc.devRef .tc main_v96) : _ → BitVec 32) (ix1 (fw b w)) := by
  after_reads_at

end

section

variable (m : (ℓ : Loc nD τ sig) → Buf (Elt Ideal) ℓ) (c : Dev nD)

/-- The contents after the first stretch after the loop. -/
abbrev U7 : Valuation τ sig (Elt Ideal) := after hostOps0_6 (U6 m c)
/-- The contents after the second stretch after the loop. -/
abbrev U8 : Valuation τ sig (Elt Ideal) := after hostOps0_7 (U7 m c)
/-- The contents after the third stretch after the loop. -/
abbrev U9 : Valuation τ sig (Elt Ideal) := after hostOps0_8 (U8 m c)
/-- The contents when the program ends. -/
abbrev U10 : Valuation τ sig (Elt Ideal) := after hostOps0_9 (U9 m c)

/-- The program's end is the last stretch's end. -/
theorem final_eq : finalContents condOps preI bodyI postI 511 m c = U10 m c := rfl

/-- The reference's arguments, read at plain indices. -/
abbrev inR : In := inV (V0 m c)

/-- An argument is unchanged by the loop. -/
theorem U6_arg (r : Ref sig .tc) (h : r ∈ argRefs) : U6 m c (Proc.devRef .tc r) = V0 m c (Proc.devRef .tc r) := by
  refine Eq.trans ?_ (entry_arg m c r h)
  fin_cases h <;> exact U6_keep m c _ (by decide) (by decide) (by decide) (by decide) (by decide)

/-- An argument is unchanged up to the last stretch. -/
theorem U9_arg (r : Ref sig .tc) (h : r ∈ argRefs) : U9 m c (Proc.devRef .tc r) = V0 m c (Proc.devRef .tc r) := by
  refine Eq.trans ?_ (U6_arg m c r h)
  fin_cases h <;> (rw [U9, U8, U7, keep8 _ _ (by decide), keep7 _ _ (by decide), keep6 _ _ (by decide)])

/-- The features after the loop. -/
theorem U6_feats (b : Fin 16) (t : Fin 512) (j : Fin 256) : (U6 m c (Proc.devRef .tc main_v34) : _ → EReal) (ix3 b t j) = Model.feats (inR m c) b t j := by
  refine (congrFun ((U6_keep m c main_v34 (by decide) (by decide) (by decide) (by decide) (by decide)).trans (?_ : _ = P5 (V0 m c) (Proc.devRef .tc main_v34))) _).trans
    (P5_feats (V0 m c) b t j)
  rw [entry_eq, P6, keep5 _ _ (by decide)]

/-- The quantised rows after the loop. -/
theorem U6_q (b : Fin 16) (t : Fin 512) (j : Fin 256) : (U6 m c (Proc.devRef .tc main_v52) : _ → EReal) (ix3 b t j) = Model.q (inR m c) b t j :=
  (congrFun (U6_keep m c main_v52 (by decide) (by decide) (by decide) (by decide) (by decide)) _).trans (P6_q (V0 m c) b t j)

/-- The commitment loss after the loop. -/
theorem U6_v57 (i : S_.Idx) : (U6 m c (Proc.devRef .tc main_v57) : _ → EReal) i = Model.commit (inR m c) :=
  (congrFun (U6_keep m c main_v57 (by decide) (by decide) (by decide) (by decide) (by decide)) _).trans (P6_v57 (V0 m c) i)

/-- The codebook loss after the loop. -/
theorem U6_v61 (i : S_.Idx) : (U6 m c (Proc.devRef .tc main_v61) : _ → EReal) i = Model.commit (inR m c) :=
  (congrFun (U6_keep m c main_v61 (by decide) (by decide) (by decide) (by decide) (by decide)) _).trans (P6_v61 (V0 m c) i)

/-- The words' distances. -/
theorem U7_dist (b : Fin 16) (w : Fin 256) (n : Fin 128) :
    (U7 m c (Proc.devRef .tc main_v95) : _ → EReal) (ix2 (fw b w) n) = Model.dist (Model.wm (inR m c) b w) ((inR m c).wcb n) := by
  refine (s6_v95 (U6 m c) (fw b w) n).trans ?_
  have e1 : (fun j : Fin 256 => (after hostOps0_6 (U6 m c) (Proc.devRef .tc main_v81) : S4096x256.Idx → EReal) (ix2 (fw b w) j)) = Model.wm (inR m c) b w :=
    funext fun j => s6_v81 (U6 m c) _ (U6_q m c) b w j
  have e2 : (inV (U6 m c)).wcb n = (inR m c).wcb n := by
    unfold inR inV
    rw [U6_arg m c main_arg12 (by decide)]
  exact congrArg₂ Model.dist e1 e2

/-- The words' numbers. -/
theorem U8_widx (b : Fin 16) (w : Fin 256) : (U8 m c (Proc.devRef .tc main_v96) : _ → BitVec 32) (ix1 (fw b w)) = BitVec.ofNat 32 (Model.widx (inR m c) b w) :=
  s7_v96 (U7 m c) (fw b w) _ (U7_dist m c b w)

/-- The words' rows. -/
theorem U9_rows (b : Fin 16) (w : Fin 256) (j : Fin 256) :
    (U9 m c (Proc.devRef .tc main_v97) : _ → EReal) (ix2 (fw b w) j) = (inR m c).wcb (Model.widx (inR m c) b w) j := by
  refine (s8_v97 (U8 m c) (fw b w) j _ (U8_widx m c b w)).trans ?_
  rw [U8, U7, keep7 _ _ (by decide), keep6 _ _ (by decide), U6_arg m c main_arg12 (by decide)]
  rfl

/-- Result `main_v109`. -/
theorem r109 (b : Fin 16) (w : Fin 256) : (U10 m c (Proc.devRef .tc main_v109) : _ → BitVec 32) (ix2 b w) = BitVec.ofNat 32 (Model.widx (inR m c) b w) := by
  refine (s9_v109 (U9 m c) b w).trans ?_
  rw [U9, keep8 _ _ (by decide)]
  exact U8_widx m c b w

/-- A buffer written before the loop's end only keeps its contents to the program's end. -/
theorem U10_keep (r : Ref sig .tc) (h9 : r ∉ wr9) (h8 : r ∉ wr8) (h7 : r ∉ wr7) (h6 : r ∉ wr6) : U10 m c (Proc.devRef .tc r) = U6 m c (Proc.devRef .tc r) := by
  rw [U10, U9, U8, U7, keep9 _ _ h9, keep8 _ _ h8, keep7 _ _ h7, keep6 _ _ h6]

/-- Result `main_v53`. -/
theorem r53 (b : Fin 16) (t : Fin 512) : (U10 m c (Proc.devRef .tc main_v53) : _ → BitVec 32) (ix2 b t) = BitVec.ofNat 32 (Model.idx (inR m c) b t) :=
  (congrFun ((U10_keep m c main_v53 (by decide) (by decide) (by decide) (by decide)).trans
    (U6_keep m c main_v53 (by decide) (by decide) (by decide) (by decide) (by decide))) _).trans (P6_v53 (V0 m c) b t)

/-- Result `main_v57`. -/
theorem r57 (i : S_.Idx) : (U10 m c (Proc.devRef .tc main_v57) : _ → EReal) i = Model.commit (inR m c) :=
  (congrFun (U10_keep m c main_v57 (by decide) (by decide) (by decide) (by decide)) _).trans (U6_v57 m c i)

/-- Result `main_v61`. -/
theorem r61 (i : S_.Idx) : (U10 m c (Proc.devRef .tc main_v61) : _ → EReal) i = Model.commit (inR m c) :=
  (congrFun (U10_keep m c main_v61 (by decide) (by decide) (by decide) (by decide)) _).trans (U6_v61 m c i)

/-- The context loss when it is computed. -/
theorem U7_v72 (hz : ∀ j : Fin 256, (inR m c).bhh ⟨512 + j, by omega⟩ = 0) (i : S_.Idx) :
    (U7 m c (Proc.devRef .tc main_v72) : _ → EReal) i = Model.ctx (inR m c) :=
  s6_v72 (U6 m c) (fun b t j => Model.hid (inR m c) b (t + 1) j) (fun b t j => Model.feats (inR m c) b ⟨t + 1, by omega⟩ j)
    (fun b t j => U6_ys m c hz t b j)
    (fun b t j => (U6_feats m c b ⟨1 + t, by omega⟩ j).trans
      (congrArg (fun s => Model.feats (inR m c) b s j) (Fin.ext (Nat.add_comm 1 (t : ℕ))))) i

/-- Result `main_v72`. -/
theorem r72 (hz : ∀ j : Fin 256, (inR m c).bhh ⟨512 + j, by omega⟩ = 0) (i : S_.Idx) :
    (U10 m c (Proc.devRef .tc main_v72) : _ → EReal) i = Model.ctx (inR m c) := by
  rw [U10, U9, U8, keep9 _ _ (by decide), keep8 _ _ (by decide), keep7 _ _ (by decide)]
  exact U7_v72 m c hz i

/-- The quantisation loss before the last stretch. -/
theorem U9_v76 (hz : ∀ j : Fin 256, (inR m c).bhh ⟨512 + j, by omega⟩ = 0) (i : S_.Idx) :
    (U9 m c (Proc.devRef .tc main_v76) : _ → EReal) i = Model.vq (inR m c) := by
  rw [U9, U8, keep8 _ _ (by decide), keep7 _ _ (by decide)]
  exact s6_v76 (U6 m c) i _ _ _ (U6_v57 m c i) (U6_v61 m c i) (U7_v72 m c hz i)

/-- Result `main_v76`. -/
theorem r76 (hz : ∀ j : Fin 256, (inR m c).bhh ⟨512 + j, by omega⟩ = 0) (i : S_.Idx) :
    (U10 m c (Proc.devRef .tc main_v76) : _ → EReal) i = Model.vq (inR m c) := by
  rw [U10, keep9 _ _ (by decide)]
  exact U9_v76 m c hz i

/-- Result `main_v106`. -/
theorem r106 (i : S_.Idx) : (U10 m c (Proc.devRef .tc main_v106) : _ → EReal) i = Model.align (inR m c) := by
  refine (s9_v106 (U9 m c) (fun r j => (U9 m c (Proc.devRef .tc main_v97) : S4096x256.Idx → EReal) (ix2 r j)) (fun _ _ => rfl) i).trans ?_
  unfold Model.align
  refine congrArg (fun s : EReal => Ideal.div s _) ((sum_words _).trans ?_)
  refine Finset.sum_congr rfl fun b _ => Finset.sum_congr rfl fun w _ => ?_
  have e1 : (inV (U9 m c)).aw = (inR m c).aw := by
    unfold inR inV
    rw [U9_arg m c main_arg13 (by decide)]
  have e2 : (inV (U9 m c)).ab = (inR m c).ab := by
    unfold inR inV
    rw [U9_arg m c main_arg14 (by decide)]
  have e3 : ∀ j : Fin 256, (U9 m c (Proc.devRef .tc main_v97) : S4096x256.Idx → EReal) (ix2 (fw b w) j) = (inR m c).wcb (Model.widx (inR m c) b w) j :=
    U9_rows m c b w
  rw [e1, e2]
  unfold Model.pe
  simp only [e3]

/-- Result `main_v108`. -/
theorem r108 (hz : ∀ j : Fin 256, (inR m c).bhh ⟨512 + j, by omega⟩ = 0) (i : S_.Idx) :
    (U10 m c (Proc.devRef .tc main_v108) : _ → EReal) i = Model.total (inR m c) :=
  s9_v108 (U9 m c) i _ _ (U9_v76 m c hz i) (r106 m c i)

end

end Cert.Proof.Ref
-- ==== Proof.RClaim.lean ====
module

public import proofs.«01_k».proof.Proof.RTail

@[expose] public section

set_option maxRecDepth 16384

/-! The reference's run with its results named. -/

noncomputable section

namespace Cert.Proof.Ref

open Idealize.ShloMosaic Idealize.ShloMosaic.TcCoe Idealize.SL.Sem
open Cert.ReferenceIdeal Cert.ReferenceIdeal.Gen Cert.ReferenceIdeal.Value Idealize.ShloMosaic.StableHlo

variable (m : (ℓ : Loc nD τ sig) → Buf (Elt Ideal) ℓ) (ρ : Dev nD → PrngReg)

/-- The reference runs to an end with its results at the last contents and its arguments unchanged. -/
theorem results : θ_run (defs (F := Ideal)) (onTc (τ := τ) (main (F := Ideal))) ⟨m, fun _ => 0, ρ⟩ (fun r => ∀ c : Dev nD,
    r.2.mem ((c.tc : Thread nD τ).loc main_v109) = U10 m c (Proc.devRef .tc main_v109)
    ∧ r.2.mem ((c.tc : Thread nD τ).loc main_v53) = U10 m c (Proc.devRef .tc main_v53)
    ∧ r.2.mem ((c.tc : Thread nD τ).loc main_v57) = U10 m c (Proc.devRef .tc main_v57)
    ∧ r.2.mem ((c.tc : Thread nD τ).loc main_v61) = U10 m c (Proc.devRef .tc main_v61)
    ∧ r.2.mem ((c.tc : Thread nD τ).loc main_v72) = U10 m c (Proc.devRef .tc main_v72)
    ∧ r.2.mem ((c.tc : Thread nD τ).loc main_v76) = U10 m c (Proc.devRef .tc main_v76)
    ∧ r.2.mem ((c.tc : Thread nD τ).loc main_v106) = U10 m c (Proc.devRef .tc main_v106)
    ∧ r.2.mem ((c.tc : Thread nD τ).loc main_v108) = U10 m c (Proc.devRef .tc main_v108)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) :=
  (θ_run _ _ _).mono (fun _ h c =>
    ⟨h c main_v109 rfl,
     h c main_v53 rfl,
     h c main_v57 rfl,
     h c main_v61 rfl,
     h c main_v72 rfl,
     h c main_v76 rfl,
     h c main_v106 rfl,
     h c main_v108 rfl,
     (h c main_arg0 rfl).trans (final_arg m c main_arg0 (by decide)),
     (h c main_arg1 rfl).trans (final_arg m c main_arg1 (by decide)),
     (h c main_arg2 rfl).trans (final_arg m c main_arg2 (by decide)),
     (h c main_arg3 rfl).trans (final_arg m c main_arg3 (by decide)),
     (h c main_arg4 rfl).trans (final_arg m c main_arg4 (by decide)),
     (h c main_arg5 rfl).trans (final_arg m c main_arg5 (by decide)),
     (h c main_arg6 rfl).trans (final_arg m c main_arg6 (by decide)),
     (h c main_arg7 rfl).trans (final_arg m c main_arg7 (by decide)),
     (h c main_arg8 rfl).trans (final_arg m c main_arg8 (by decide)),
     (h c main_arg9 rfl).trans (final_arg m c main_arg9 (by decide)),
     (h c main_arg10 rfl).trans (final_arg m c main_arg10 (by decide)),
     (h c main_arg11 rfl).trans (final_arg m c main_arg11 (by decide)),
     (h c main_arg12 rfl).trans (final_arg m c main_arg12 (by decide)),
     (h c main_arg13 rfl).trans (final_arg m c main_arg13 (by decide)),
     (h c main_arg14 rfl).trans (final_arg m c main_arg14 (by decide))⟩) (run_fold m ρ)

end Cert.Proof.Ref

end
-- ==== Proof.Value.lean ====
module

public import proofs.«01_k».proof.Proof.KClaim
public import proofs.«01_k».proof.Proof.RClaim

@[expose] public section

set_option maxRecDepth 16384

/-! Every result of the kernel is the reference's. -/

noncomputable section

namespace Cert.Proof.Value

open Idealize.ShloMosaic Idealize.ShloMosaic.TcCoe Idealize.SL.Sem
open Cert.Proof

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

/-- The two programs start from the same arguments. -/
def Agree (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- From the same arguments the two programs read the same inputs. -/
theorem in_eq (c : Dev Cert.KernelIdeal.nD) (h : Agree m m' c) : Ref.inR m' c = K.inK m c := by
  obtain ⟨h0, h1, h2, h3, h4, h5, h6, h7, h8, h9, h10, h11, h12, h13, h14⟩ := h
  unfold Ref.inR Ref.inV K.inK Ref.V0
  congr 1
  · funext b t k; exact congrFun h0 (ix3 b t k)
  · funext l k; exact congrFun h1 (ix2 l k)
  · funext l; exact congrFun h2 (ix1 l)
  · funext j l; exact congrFun h3 (ix2 j l)
  · funext j; exact congrFun h4 (ix1 j)
  · funext o k s; exact congrFun h5 (ix3 o k s)
  · funext o; exact congrFun h6 (ix1 o)
  · funext n j; exact congrFun h7 (ix2 n j)
  · funext g k; exact congrFun h8 (ix2 g k)
  · funext g k; exact congrFun h9 (ix2 g k)
  · funext g; exact congrFun h10 (ix1 g)
  · funext g; exact congrFun h11 (ix1 g)
  · funext n j; exact congrFun h12 (ix2 n j)
  · funext j k; exact congrFun h13 (ix2 j k)
  · funext j; exact congrFun h14 (ix1 j)

/-- The reference's recurrent bias has its last third zero. -/
theorem zero (c : Dev Cert.KernelIdeal.nD) (hp : Cert.Pre_KernelIdeal_tame_inputs m) (h : Agree m m' c) (j : Fin 256) :
    (Ref.inR m' c).bhh ⟨512 + j, by omega⟩ = 0 := by
  rw [in_eq m m' c h]
  exact K.bias_zero m c hp j

/-- Result 1 is the same of both programs. -/
theorem e1 (c : Dev Cert.KernelIdeal.nD) (h : Agree m m' c) :
    (Ref.U10 m' c (Proc.devRef .tc Cert.ReferenceIdeal.main_v109) : Cert.KernelIdeal.S16x256.Idx → BitVec 32) = Cert.KernelIdeal.Gen.W5 (F := Ideal) m ρ c (Proc.devRef .tc Cert.KernelIdeal.main_v27) := by
  funext i
  idx_vars i
  refine (Ref.r109 m' c _ _).trans (Eq.trans ?_ (K.r27 m ρ c _ _).symm)
  rw [in_eq m m' c h]

/-- Result 2 is the same of both programs. -/
theorem e2 (c : Dev Cert.KernelIdeal.nD) (h : Agree m m' c) :
    (Ref.U10 m' c (Proc.devRef .tc Cert.ReferenceIdeal.main_v53) : Cert.KernelIdeal.S16x512.Idx → BitVec 32) = Cert.KernelIdeal.Gen.W5 (F := Ideal) m ρ c (Proc.devRef .tc Cert.KernelIdeal.main_v26) := by
  funext i
  idx_vars i
  refine (Ref.r53 m' c _ _).trans (Eq.trans ?_ (K.r26 m ρ c _ _).symm)
  rw [in_eq m m' c h]

/-- Result 3 is the same of both programs. -/
theorem e3 (c : Dev Cert.KernelIdeal.nD) (hp : Cert.Pre_KernelIdeal_tame_inputs m) (h : Agree m m' c) :
    (Ref.U10 m' c (Proc.devRef .tc Cert.ReferenceIdeal.main_v57) : Cert.KernelIdeal.S_.Idx → EReal) = Cert.KernelIdeal.Gen.W5 (F := Ideal) m ρ c (Proc.devRef .tc Cert.KernelIdeal.main_v29) := by
  funext i
  refine (Ref.r57 m' c i).trans (Eq.trans ?_ (K.r29 m ρ c i).symm)
  rw [in_eq m m' c h, K.commit_eq m c hp]

/-- Result 4 is the same of both programs. -/
theorem e4 (c : Dev Cert.KernelIdeal.nD) (hp : Cert.Pre_KernelIdeal_tame_inputs m) (h : Agree m m' c) :
    (Ref.U10 m' c (Proc.devRef .tc Cert.ReferenceIdeal.main_v61) : Cert.KernelIdeal.S_.Idx → EReal) = Cert.KernelIdeal.Gen.W5 (F := Ideal) m ρ c (Proc.devRef .tc Cert.KernelIdeal.main_v29) := by
  funext i
  refine (Ref.r61 m' c i).trans (Eq.trans ?_ (K.r29 m ρ c i).symm)
  rw [in_eq m m' c h, K.commit_eq m c hp]

/-- Result 5 is the same of both programs. -/
theorem e5 (c : Dev Cert.KernelIdeal.nD) (hp : Cert.Pre_KernelIdeal_tame_inputs m) (h : Agree m m' c) :
    (Ref.U10 m' c (Proc.devRef .tc Cert.ReferenceIdeal.main_v72) : Cert.KernelIdeal.S_.Idx → EReal) = Cert.KernelIdeal.Gen.W5 (F := Ideal) m ρ c (Proc.devRef .tc Cert.KernelIdeal.main_v31) := by
  funext i
  refine (Ref.r72 m' c (zero m m' c hp h) i).trans (Eq.trans ?_ (K.r31 m ρ c i).symm)
  rw [in_eq m m' c h]

/-- Result 6 is the same of both programs. -/
theorem e6 (c : Dev Cert.KernelIdeal.nD) (hp : Cert.Pre_KernelIdeal_tame_inputs m) (h : Agree m m' c) :
    (Ref.U10 m' c (Proc.devRef .tc Cert.ReferenceIdeal.main_v76) : Cert.KernelIdeal.S_.Idx → EReal) = Cert.KernelIdeal.Gen.W5 (F := Ideal) m ρ c (Proc.devRef .tc Cert.KernelIdeal.main_v35) := by
  funext i
  refine (Ref.r76 m' c (zero m m' c hp h) i).trans (Eq.trans ?_ (K.r35 m ρ c i).symm)
  rw [in_eq m m' c h, K.commit_eq m c hp]
  rfl

/-- Result 7 is the same of both programs. -/
theorem e7 (c : Dev Cert.KernelIdeal.nD) (h : Agree m m' c) :
    (Ref.U10 m' c (Proc.devRef .tc Cert.ReferenceIdeal.main_v106) : Cert.KernelIdeal.S_.Idx → EReal) = Cert.KernelIdeal.Gen.W5 (F := Ideal) m ρ c (Proc.devRef .tc Cert.KernelIdeal.main_v37) := by
  funext i
  refine (Ref.r106 m' c i).trans (Eq.trans ?_ (K.r37 m ρ c i).symm)
  rw [in_eq m m' c h]

/-- Result 8 is the same of both programs. -/
theorem e8 (c : Dev Cert.KernelIdeal.nD) (hp : Cert.Pre_KernelIdeal_tame_inputs m) (h : Agree m m' c) :
    (Ref.U10 m' c (Proc.devRef .tc Cert.ReferenceIdeal.main_v108) : Cert.KernelIdeal.S_.Idx → EReal) = Cert.KernelIdeal.Gen.W5 (F := Ideal) m ρ c (Proc.devRef .tc Cert.KernelIdeal.main_v39) := by
  funext i
  refine (Ref.r108 m' c (zero m m' c hp h) i).trans (Eq.trans ?_ (K.r39 m ρ c i).symm)
  rw [in_eq m m' c h, K.commit_eq m c hp]
  rfl

/-- The kernel and the reference, from the same arguments, end with the same eight results. -/
theorem algebraic : Cert.algebraic_KernelIdeal_ReferenceIdeal_pre_tame_inputs := by
  intro m ρ m' ρ' hp ag
  refine ⟨fun c => Cert.KernelIdeal.Gen.W5 (F := Ideal) m ρ c (Proc.devRef .tc Cert.KernelIdeal.main_v27), fun c => Cert.KernelIdeal.Gen.W5 (F := Ideal) m ρ c (Proc.devRef .tc Cert.KernelIdeal.main_v26), fun c => Cert.KernelIdeal.Gen.W5 (F := Ideal) m ρ c (Proc.devRef .tc Cert.KernelIdeal.main_v29), fun c => Cert.KernelIdeal.Gen.W5 (F := Ideal) m ρ c (Proc.devRef .tc Cert.KernelIdeal.main_v29), fun c => Cert.KernelIdeal.Gen.W5 (F := Ideal) m ρ c (Proc.devRef .tc Cert.KernelIdeal.main_v31), fun c => Cert.KernelIdeal.Gen.W5 (F := Ideal) m ρ c (Proc.devRef .tc Cert.KernelIdeal.main_v35), fun c => Cert.KernelIdeal.Gen.W5 (F := Ideal) m ρ c (Proc.devRef .tc Cert.KernelIdeal.main_v37), fun c => Cert.KernelIdeal.Gen.W5 (F := Ideal) m ρ c (Proc.devRef .tc Cert.KernelIdeal.main_v39), K.results m ρ, ?_⟩
  refine (θ_run _ _ _).mono (fun r h c => ?_) (Ref.results m' ρ')
  obtain ⟨h1, h2, h3, h4, h5, h6, h7, h8, ha⟩ := h c
  exact ⟨h1.trans (e1 m ρ m' c (ag c)), h2.trans (e2 m ρ m' c (ag c)), h3.trans (e3 m ρ m' c hp (ag c)), h4.trans (e4 m ρ m' c hp (ag c)), h5.trans (e5 m ρ m' c hp (ag c)), h6.trans (e6 m ρ m' c hp (ag c)), h7.trans (e7 m ρ m' c (ag c)), h8.trans (e8 m ρ m' c hp (ag c)), ha⟩

end Cert.Proof.Value

end
-- ==== Proof.lean ====
module

public import proofs.«01_k».proof.Defs
public import proofs.«01_k».proof.Proof.KRun
public import proofs.«01_k».proof.Proof.KIRun
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Proof.Pre.facts,
  fun m ρ _ => Cert.Kernel.Gen.frame m ρ,
  fun m ρ _ => Cert.KernelIdeal.Gen.frame m ρ, fun m ρ _ => Cert.KernelIdeal.Gen.frame m ρ,
  fun m ρ _ => Cert.Proof.Ref.frame m ρ, fun m ρ _ => Cert.Proof.Ref.frame m ρ,
  trivial, Cert.Proof.Value.algebraic⟩

end Cert.Proof

end
